-- ==== Defs.lean ====
def Pre_Kernel [hPre_pi_swaps_Kernel : Cert.Pre_pi_swaps_Kernel.Facts] (m : (ℓ : Loc Cert.Kernel.nD Cert.Kernel.τ Cert.Kernel.sig) → Buf (Elt Bits) ℓ) : Prop :=
  ∀ c : Dev Cert.Kernel.nD,
    (Cert.Pre_pi_swaps_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_keeps_Kernel [hPre_pi_keeps_Kernel : Cert.Pre_pi_keeps_Kernel.Facts] (m : (ℓ : Loc Cert.Kernel.nD Cert.Kernel.τ Cert.Kernel.sig) → Buf (Elt Bits) ℓ) : Prop :=
  ∀ c : Dev Cert.Kernel.nD,
    (Cert.Pre_pi_keeps_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_pi_swaps_Kernel : Cert.Pre_pi_swaps_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_swaps_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_keeps_Kernel [hPre_pi_keeps_Kernel : Cert.Pre_pi_keeps_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_keeps_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pi_swaps_ReferenceIdeal [hPre_pi_swaps_ReferenceIdeal : Cert.Pre_pi_swaps_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_swaps_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_keeps_ReferenceIdeal [hPre_pi_keeps_ReferenceIdeal : Cert.Pre_pi_keeps_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_keeps_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_pi_swaps_Kernel : Cert.Pre_pi_swaps_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_keeps_Kernel [hKernel : Cert.Kernel.Facts] [hPre_pi_keeps_Kernel : Cert.Pre_pi_keeps_Kernel.Facts] : Prop :=
  ∀ (m : (ℓ : Loc Cert.Kernel.nD Cert.Kernel.τ Cert.Kernel.sig) → Buf (Elt Bits) ℓ) (g : Dev Cert.Kernel.nD → PrngReg), Pre_Kernel_pi_keeps_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_pi_swaps_Kernel : Cert.Pre_pi_swaps_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_keeps_Kernel [hKernelIdeal : Cert.KernelIdeal.Facts] [hPre_pi_keeps_Kernel : Cert.Pre_pi_keeps_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_keeps_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_swaps_ReferenceIdeal [hReferenceIdeal : Cert.ReferenceIdeal.Facts] [hPre_pi_swaps_ReferenceIdeal : Cert.Pre_pi_swaps_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_swaps_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_keeps_ReferenceIdeal [hReferenceIdeal : Cert.ReferenceIdeal.Facts] [hPre_pi_keeps_ReferenceIdeal : Cert.Pre_pi_keeps_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_keeps_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pi_swaps_Kernel : Cert.Pre_pi_swaps_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![2, 4096, 2048]⟩ (Layout.meshBlock [2, 2, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![2, 4096, 2048]⟩ (Layout.meshBlock [2, 2, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_keeps_Kernel [hKernelIdeal : Cert.KernelIdeal.Facts] [hReferenceIdeal : Cert.ReferenceIdeal.Facts] [hPre_pi_keeps_Kernel : Cert.Pre_pi_keeps_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_keeps_Kernel m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![2, 4096, 2048]⟩ (Layout.meshBlock [2, 2, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![2, 4096, 2048]⟩ (Layout.meshBlock [2, 2, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_pi_swaps_Kernel : Cert.Pre_pi_swaps_Kernel.Facts) (hPre_pi_keeps_Kernel : Cert.Pre_pi_keeps_Kernel.Facts) (hPre_pi_swaps_ReferenceIdeal : Cert.Pre_pi_swaps_ReferenceIdeal.Facts) (hPre_pi_keeps_ReferenceIdeal : Cert.Pre_pi_keeps_ReferenceIdeal.Facts),
    quiescent_Kernel (hKernel := hKernel) (hPre_pi_swaps_Kernel := hPre_pi_swaps_Kernel)
    ∧ quiescent_Kernel_pre_pi_keeps_Kernel (hKernel := hKernel) (hPre_pi_keeps_Kernel := hPre_pi_keeps_Kernel)
    ∧ quiescent_KernelIdeal (hKernelIdeal := hKernelIdeal) (hPre_pi_swaps_Kernel := hPre_pi_swaps_Kernel)
    ∧ quiescent_KernelIdeal_pre_pi_keeps_Kernel (hKernelIdeal := hKernelIdeal) (hPre_pi_keeps_Kernel := hPre_pi_keeps_Kernel)
    ∧ quiescent_ReferenceIdeal (hReferenceIdeal := hReferenceIdeal)
    ∧ quiescent_ReferenceIdeal_pre_pi_swaps_ReferenceIdeal (hReferenceIdeal := hReferenceIdeal) (hPre_pi_swaps_ReferenceIdeal := hPre_pi_swaps_ReferenceIdeal)
    ∧ quiescent_ReferenceIdeal_pre_pi_keeps_ReferenceIdeal (hReferenceIdeal := hReferenceIdeal) (hPre_pi_keeps_ReferenceIdeal := hPre_pi_keeps_ReferenceIdeal)
    ∧ preserves_Kernel_KernelIdeal
    ∧ algebraic_KernelIdeal_ReferenceIdeal (hKernelIdeal := hKernelIdeal) (hReferenceIdeal := hReferenceIdeal) (hPre_pi_swaps_Kernel := hPre_pi_swaps_Kernel)
    ∧ algebraic_KernelIdeal_ReferenceIdeal_pre_pi_keeps_Kernel (hKernelIdeal := hKernelIdeal) (hReferenceIdeal := hReferenceIdeal) (hPre_pi_keeps_Kernel := hPre_pi_keeps_Kernel)
-- ==== Pre_pi_keeps_Kernel.lean ====
abbrev S1x4096x2048 : Shape := ⟨3, ![1, 4096, 2048]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S1x4096x2048 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := andi main_v2 main_v5
  main_v6
-- ==== Pre_pi_keeps_ReferenceIdeal.lean ====
abbrev S2x4096x2048 : Shape := ⟨3, ![2, 4096, 2048]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S2x4096x2048 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := andi main_v2 main_v5
  main_v6
-- ==== Pre_pi_swaps_Kernel.lean ====
abbrev S1x4096x2048 : Shape := ⟨3, ![1, 4096, 2048]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S1x4096x2048 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  main_v6
-- ==== Pre_pi_swaps_ReferenceIdeal.lean ====
abbrev S2x4096x2048 : Shape := ⟨3, ![2, 4096, 2048]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S2x4096x2048 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  main_v6
-- ==== Kernel.lean ====
abbrev S1x4096x2048 : Shape := ⟨3, ![1, 4096, 2048]⟩
abbrev S2 : Shape := ⟨1, ![2]⟩
abbrev S_ : Shape := ⟨0, ![]⟩
abbrev S1 : Shape := ⟨1, ![1]⟩
abbrev S1x2048x2048 : Shape := ⟨3, ![1, 2048, 2048]⟩

abbrev nBuf : Space → Nat
  | .hbm => 3
  | .vmem => 0
  | .smem => 1
  | _ => 0

abbrev bufTy : (tb : Table) → Fin (tcTables nBuf tb) → BufTy
  | .hbm, ⟨0, _⟩ => ⟨S1x4096x2048, .f32⟩
  | .hbm, ⟨1, _⟩ => ⟨S2, .i32⟩
  | .hbm, ⟨2, _⟩ => ⟨S1x4096x2048, .f32⟩
  | .local _ .smem, ⟨0, _⟩ => ⟨S2, .i32⟩
  | _, _ => ⟨S1x4096x2048, .f32⟩

abbrev bufScoped : (cs : CoreSpace) → Fin (nBuf (.core cs)) → Bool
  | .smem, ⟨0, _⟩ => true
  | _, _ => false

abbrev semScoped : Fin 1 → Bool
  | ⟨0, _⟩ => false
  | _ => false

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  (ofTc nBuf bufTy 1 6 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.smem, 0, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_off1 (d0 : Dev nD) : Fin 1 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : Index := Scalar.indexCast v5
  ![v9.toNat]
def k0_dev1 (d0 : Dev nD) (v10 : BitVec 32) : Nat :=
  let c0_i32_5 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_4 : BitVec 32 := 8#32
  let v18 : BitVec 32 := Scalar.muli v2 c8_i32_4
  let v19 : BitVec 32 := Scalar.addi c0_i32_5 v18
  let c4_i32_6 : BitVec 32 := 4#32
  let v20 : BitVec 32 := Scalar.muli v10 c4_i32_6
  let v21 : BitVec 32 := Scalar.addi v19 v20
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v22 : BitVec 32 := Scalar.muli v8 c1_i32_7
  let v23 : BitVec 32 := Scalar.addi v21 v22
  v23.toNat
def k0_cond2 (d0 : Dev nD) (v10 : BitVec 32) : BitVec 1 :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v14 : BitVec 1 := Scalar.cmpi .ne v10 v5
  let v15 : BitVec 32 := Scalar.extui v14
  let c0_i32_2 : BitVec 32 := 0#32
  let v16 : BitVec 1 := Scalar.cmpi .ne v15 c0_i32_2
  v16

def k0_dev2 (d0 : Dev nD) (v10 : BitVec 32) : Nat :=
  let c0_i32_12 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_11 : BitVec 32 := 8#32
  let v24 : BitVec 32 := Scalar.muli v2 c8_i32_11
  let v25 : BitVec 32 := Scalar.addi c0_i32_12 v24
  let c4_i32_13 : BitVec 32 := 4#32
  let v26 : BitVec 32 := Scalar.muli v10 c4_i32_13
  let v27 : BitVec 32 := Scalar.addi v25 v26
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_14 : BitVec 32 := 1#32
  let v28 : BitVec 32 := Scalar.muli v8 c1_i32_14
  let v29 : BitVec 32 := Scalar.addi v27 v28
  v29.toNat
def k0_dev3 (d0 : Dev nD) (v10 : BitVec 32) : Nat :=
  let c0_i32_24 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_23 : BitVec 32 := 8#32
  let v36 : BitVec 32 := Scalar.muli v2 c8_i32_23
  let v37 : BitVec 32 := Scalar.addi c0_i32_24 v36
  let c4_i32_25 : BitVec 32 := 4#32
  let v38 : BitVec 32 := Scalar.muli v10 c4_i32_25
  let v39 : BitVec 32 := Scalar.addi v37 v38
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_26 : BitVec 32 := 1#32
  let v40 : BitVec 32 := Scalar.muli v8 c1_i32_26
  let v41 : BitVec 32 := Scalar.addi v39 v40
  v41.toNat

def k0_chk1 (d0 : Dev nD) (v10 : BitVec 32) : Prop :=
  (∀ (k0_h2 : k0_cond2 d0 v10 = 1#1), (k0_dev1 d0 v10) < nD) ∧
  (∀ (k0_h2 : k0_cond2 d0 v10 = 1#1), (k0_dev2 d0 v10) < nD) ∧
  (∀ (k0_h2 : k0_cond2 d0 v10 = 1#1), (k0_dev3 d0 v10) < nD)
theorem k0_dev1_lt : ∀ (d0 : Dev nD) (v10 : BitVec 32) (k0_hw1 : k0_chk1 d0 v10), ∀ (k0_h2 : k0_cond2 d0 v10 = 1#1), (k0_dev1 d0 v10) < nD := fun d0 v10 k0_hw1 k0_h2 => k0_hw1.1 k0_h2
theorem k0_dev2_lt : ∀ (d0 : Dev nD) (v10 : BitVec 32) (k0_hw1 : k0_chk1 d0 v10), ∀ (k0_h2 : k0_cond2 d0 v10 = 1#1), (k0_dev2 d0 v10) < nD := fun d0 v10 k0_hw1 k0_h2 => k0_hw1.2.1 k0_h2
theorem k0_dev3_lt : ∀ (d0 : Dev nD) (v10 : BitVec 32) (k0_hw1 : k0_chk1 d0 v10), ∀ (k0_h2 : k0_cond2 d0 v10 = 1#1), (k0_dev3 d0 v10) < nD := fun d0 v10 k0_hw1 k0_h2 => k0_hw1.2.2 k0_h2

abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x4096x2048 : Shape := ⟨3, ![2, 4096, 2048]⟩
abbrev S2 : Shape := ⟨1, ![2]⟩
abbrev S_ : Shape := ⟨0, ![]⟩
abbrev S2x1 : Shape := ⟨2, ![2, 1]⟩

abbrev nBuf : Space → Nat
  | .hbm => 14
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2, .i32⟩
  | .hbm, ⟨2, _⟩ => ⟨S2, .i32⟩
  | .hbm, ⟨3, _⟩ => ⟨S2, .i32⟩
  | .hbm, ⟨4, _⟩ => ⟨S2, .i32⟩
  | .hbm, ⟨5, _⟩ => ⟨S_, .i32⟩
  | .hbm, ⟨6, _⟩ => ⟨S2, .i32⟩
  | .hbm, ⟨7, _⟩ => ⟨S2, .i1⟩
  | .hbm, ⟨8, _⟩ => ⟨S_, .i32⟩
  | .hbm, ⟨9, _⟩ => ⟨S2, .i32⟩
  | .hbm, ⟨10, _⟩ => ⟨S2, .i32⟩
  | .hbm, ⟨11, _⟩ => ⟨S2, .i32⟩
  | .hbm, ⟨12, _⟩ => ⟨S2x1, .i32⟩
  | .hbm, ⟨13, _⟩ => ⟨S2x4096x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Proof.Words.lean ====
module

public import proofs.«01_k».proof.Proof.Gen.Pre_pi_swaps_Kernel
public import proofs.«01_k».proof.Proof.Gen.Pre_pi_keeps_Kernel
public import Idealize.ShloMosaic.PureOps

@[expose] public section

/-!
# What the preconditions say of a table

Each precondition compares the two words of one device's table with two constants and asks that both agree. Here each is
read back as the two equations it stands for.
-/

noncomputable section

namespace Cert.Words

open Idealize.ShloMosaic

variable {F : FTy → Type} [FloatOps F]

/-- The shape of a table, -/
abbrev Two : Shape := ⟨1, ![2]⟩
/-- of one word of it, -/
abbrev One : Shape := ⟨1, ![1]⟩
/-- and of a scalar. -/
abbrev Sc : Shape := ⟨0, ![]⟩

/-- Position `o` of a table. -/
def pos (o : ℕ) (ho : o < 2) : Two.Idx := fun a => ⟨o, by fin_cases a; exact ho⟩

/-- Every position is `pos` of its number. -/
theorem pos_self (i : Two.Idx) : pos (i 0).val (i 0).isLt = i := by
  funext a; fin_cases a; rfl

/-- The word a table's slice of one word at `o` gives when read as a scalar is the table's word at `o`. -/
theorem word_read {w : ℕ} (t : IVec Two w) (o : ℕ) (ho : o < 2) (hs : Two.Slices ![o] One) (hc : One.ShapeCasts Sc) (i : Sc.Idx) :
    shapeCast Sc (extractStridedSlice One ![o] t hs) hc i = t (pos o ho) := by
  refine congrArg t (funext fun a => Fin.ext ?_)
  fin_cases a
  have h : (Shape.reshapeEquiv hc i (0 : Fin 1)).val < 1 := (Shape.reshapeEquiv hc i (0 : Fin 1)).isLt
  show o + (Shape.reshapeEquiv hc i (0 : Fin 1)).val = o
  omega

/-- The bit of an equality that fails is zero. -/
theorem bit_of_ne {u v : BitVec 32} (n : u ≠ v) : IntOp.cmpi .eq u v = 0#1 :=
  congrArg BitVec.ofBool (beq_false_of_ne n)

/-- A conjunction with a zero bit is not one, -/
theorem zero_left : ∀ x : BitVec 1, IntOp.andi 0#1 x ≠ 1#1 := by decide
/-- on either side. -/
theorem zero_right : ∀ x : BitVec 1, IntOp.andi x 0#1 ≠ 1#1 := by decide

/-- So where the conjunction of two equality bits is one, both equalities hold. -/
theorem both_eq {a b p q : BitVec 32} (h : IntOp.andi (IntOp.cmpi .eq a p) (IntOp.cmpi .eq b q) = 1#1) : a = p ∧ b = q := by
  refine ⟨?_, ?_⟩ <;> by_contra n <;> rw [bit_of_ne n] at h
  · exact zero_left _ h
  · exact zero_right _ h

/-- Two words of a table compared with two constants, as the preconditions compute it. -/
theorem words_of {t : IVec Two 32} {p q : BitVec 32} (hs0 : Two.Slices ![0] One) (hs1 : Two.Slices ![1] One) (hc : One.ShapeCasts Sc)
    (h : andi (cmpi .eq (shapeCast Sc (extractStridedSlice One ![0] t hs0) hc) (constantI Sc 32 p))
      (cmpi .eq (shapeCast Sc (extractStridedSlice One ![1] t hs1) hc) (constantI Sc 32 q)) = fun _ => 1#1) :
    t (pos 0 (by decide)) = p ∧ t (pos 1 (by decide)) = q := by
  have h' := congrFun h (fun a => a.elim0)
  rw [← word_read t 0 (by decide) hs0 hc (fun a => a.elim0), ← word_read t 1 (by decide) hs1 hc (fun a => a.elim0)]
  exact both_eq h'

/-- A table that "swaps" is `[1, 0]`. -/
theorem swaps_words [Cert.Pre_pi_swaps_Kernel.Facts] {x : FVec F ⟨3, ![1, 4096, 2048]⟩ .f32} {t : IVec Two 32}
    (h : Cert.Pre_pi_swaps_Kernel.fn x t = fun _ => 1#1) : t (pos 0 (by decide)) = 1#32 ∧ t (pos 1 (by decide)) = 0#32 :=
  words_of Cert.Pre_pi_swaps_Kernel.Facts.slices_S2_S1_0 Cert.Pre_pi_swaps_Kernel.Facts.slices_S2_S1_1
    Cert.Pre_pi_swaps_Kernel.Facts.shapeCasts_S1_S_ h

/-- A table that "keeps" is `[0, 1]`. -/
theorem keeps_words [Cert.Pre_pi_keeps_Kernel.Facts] {x : FVec F ⟨3, ![1, 4096, 2048]⟩ .f32} {t : IVec Two 32}
    (h : Cert.Pre_pi_keeps_Kernel.fn x t = fun _ => 1#1) : t (pos 0 (by decide)) = 0#32 ∧ t (pos 1 (by decide)) = 1#32 :=
  words_of Cert.Pre_pi_keeps_Kernel.Facts.slices_S2_S1_0 Cert.Pre_pi_keeps_Kernel.Facts.slices_S2_S1_1
    Cert.Pre_pi_keeps_Kernel.Facts.shapeCasts_S1_S_ h

end Cert.Words

end
-- ==== Proof.IdealCells.lean ====
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Scf
public import Idealize.ShloMosaic.Lib.Tactic

@[expose] public section

/-!
# Devices, buffers, semaphores and the schedule of the exchange

The mesh has the axes `x` (2), `y` (2) and `z` (4), and device `c` sits at `(c / 8, c / 4 % 2, c % 4)`.
Every device reads one word of the table, the one at its own `y`. Two tables are considered, told apart by
a Boolean `sw`: the one that swaps the two positions of `y` (`sw = true`), under which a device sends its block
in two halves to the device across `y`, and the one that keeps them (`sw = false`), under which a device copies its
block to its own result. This module says which semaphores the two runs use, what each of their credits carries,
and how a block splits into its two halves.
-/

noncomputable section

namespace Cert.KernelIdeal.Swap

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the pipeline's own part and the exchange's, each with one duty per cell and round. -/
abbrev UU : Type := UR sig nD τ × UR sig nD τ

local notation "𝕄" => MT nD τ sig Unit (Elt F) ℕ UU ℕ

/-- The pipeline's part of the ghost state. -/
abbrev EP : Emb (UR sig nD τ) (MT nD τ sig Unit (Elt F) ℕ UU ℕ) := embL
/-- The exchange's part of the ghost state. -/
abbrev ER : Emb (UR sig nD τ) (MT nD τ sig Unit (Elt F) ℕ UU ℕ) := embR

variable (m : (ℓ : Loc nD τ sig) → Buf (Elt F) ℓ) (ρ : Dev nD → PrngReg)

/-! ## Devices -/

set_option backward.proofsInPublic true in
/-- The device across the axis `y`: the same `x` and `z`, the other `y`. -/
def peer (c : Dev nD) : Dev nD :=
  ⟨c.val / 8 * 8 + (c.val + 4) % 8, by have : c.val < 16 := c.isLt; show _ < 16; omega⟩

/-- Crossing `y` twice comes back. -/
theorem peer_peer (c : Dev nD) : peer (peer c) = c := by revert c; decide

/-- Crossing `y` as a permutation of the devices. -/
def across : Dev nD ≃ Dev nD := ⟨peer, peer, peer_peer, peer_peer⟩

/-- The device whose block ends up on `c`. -/
def origin (sw : Bool) (c : Dev nD) : Dev nD := if sw then peer c else c

/-! ## The table -/

/-- The table's index of a device's own position on `y`. -/
def at2 (y : ℕ) (hy : y < 2) : S2.Idx := fun a => ⟨y, by fin_cases a; exact hy⟩

/-- The word a table holds at position `y`: the other position for the swapping table, `y` itself for the keeping one. -/
def entry (sw : Bool) (y : ℕ) : BitVec 32 := BitVec.ofNat 32 (if sw then 1 - y else y)

/-- The table device `c` is given. -/
abbrev tableOf (c : Dev nD) : IVec S2 32 := m ((c : Thread nD τ).loc main_arg1)

/-- What the run asks of the launch memory: every device's table is the swapping one (`sw`) or the keeping one. -/
def Tables (sw : Bool) : Prop := ∀ (c : Dev nD) (y : ℕ) (hy : y < 2), tableOf m c (at2 y hy) = entry sw y

/-- The table as the pipeline stages it. -/
def tableStaged (c : Dev nD) : (cc0_stg0_0 : Ref sig .tc).ty.Contents (Elt F) :=
  (win0_0.blk (0 : Fin 1)).view.read (Elt F) ((s₀ m ρ).mem ((c : Thread nD τ).loc main_arg1))

/-- The one word of the table that device `c` reads: a rectangle of one element at its `y`. -/
abbrev wordRect (c : Dev nD) : Rect S2 := Rect.unit (s := S2) (k0_off1 c) S1.size (k0_off1_inb c)

/-- The word read there from the staged table `t`. -/
abbrev wordOf (c : Dev nD) (t : (cc0_stg0_0 : Ref sig .tc).ty.Contents (Elt F)) : BitVec 32 :=
  ((Memref.whole cc0_stg0_0).access (wordRect c) : View sig .tc _ _ _).read (Elt F) t
    (Shape.Idx.first (s := S1) (numel1_S1.symm ▸ Nat.one_pos))

omit [FloatOps F] in
/-- The word device `c` reads is its table's entry at its `y`. -/
theorem wordOf_staged (c : Dev nD) :
    wordOf c (tableStaged m ρ c) = tableOf m c (at2 (c.val / 4 % 2) (Nat.mod_lt _ (by decide))) := by
  show m ((c : Thread nD τ).loc main_arg1) _ = _
  refine congrArg _ (funext fun a => Fin.ext ?_)
  fin_cases a; fin_cases c <;> rfl

variable {m} in
omit [FloatOps F] in
/-- Under the table `sw`, the word device `c` reads is the entry at its `y`. -/
theorem Tables.word {sw : Bool} (h : Tables m sw) (c : Dev nD) :
    wordOf c (tableStaged m ρ c) = entry sw (c.val / 4 % 2) := by rw [wordOf_staged, h c]

/-! ### What a word the table can hold makes of the kernel's conditions -/

/-- An entry passes the kernel's checks: the devices it computes from it exist. -/
theorem entry_chk (sw : Bool) (c : Dev nD) : k0_chk1 c (entry sw (c.val / 4 % 2)) := by
  revert sw c; decide +kernel

/-- The condition "the entry is my own `y`", as the kernel computes it. -/
abbrev sameCond (c : Dev nD) (w : BitVec 32) : BitVec 1 :=
  Scalar.cmpi .ne ((Scalar.extui (Scalar.cmpi .eq w (Scalar.remsi (Scalar.divsi (Dev.word c) 4#32) 2#32)) : BitVec 32)) 0#32

/-- It holds exactly for the keeping table. -/
theorem entry_same (c : Dev nD) : sameCond c (entry true (c.val / 4 % 2)) ≠ 1#1 := by revert c; decide +kernel
/-- For the keeping table it does hold. -/
theorem entry_same' (c : Dev nD) : sameCond c (entry false (c.val / 4 % 2)) = 1#1 := by revert c; decide +kernel

/-- The condition "the entry is not my own `y`" holds exactly for the swapping table. -/
theorem entry_other (c : Dev nD) : k0_cond2 c (entry true (c.val / 4 % 2)) = 1#1 := by revert c; decide +kernel
/-- For the keeping table it does not. -/
theorem entry_other' (c : Dev nD) : ¬ k0_cond2 c (entry false (c.val / 4 % 2)) = 1#1 := by revert c; decide +kernel

/-- The three devices computed from an entry of the swapping table are the one across `y`. -/
theorem entry_dev1 (c : Dev nD) : k0_dev1 c (entry true (c.val / 4 % 2)) = (peer c).val := by revert c; decide +kernel
/-- The one the first half goes to, -/
theorem entry_dev2 (c : Dev nD) : k0_dev2 c (entry true (c.val / 4 % 2)) = (peer c).val := by revert c; decide +kernel
/-- and the one the second half goes to. -/
theorem entry_dev3 (c : Dev nD) : k0_dev3 c (entry true (c.val / 4 % 2)) = (peer c).val := by revert c; decide +kernel

/-! ## Buffers -/

/-- The block a device is given, and its result's buffer, whole. -/
abbrev xM : Memref sig .tc .hbm S1x4096x2048 .f32 := Memref.whole main_arg0
/-- The result's buffer, whole. -/
abbrev vM : Memref sig .tc .hbm S1x4096x2048 .f32 := Memref.whole main_v1
/-- The table's staging buffer. -/
abbrev tM : Memref sig .tc .smem S2 .i32 := Memref.whole cc0_stg0_0

/-- The first and the last 2048 rows of a block. -/
abbrev topR : Rect S1x4096x2048 :=
  Rect.unit (s := S1x4096x2048) ![0, 0, 0] S1x2048x2048.size inb_S1x4096x2048_S1x2048x2048_0_0_0
/-- The last 2048 rows. -/
abbrev botR : Rect S1x4096x2048 :=
  Rect.unit (s := S1x4096x2048) ![0, 2048, 0] S1x2048x2048.size inb_S1x4096x2048_S1x2048x2048_0_2048_0

/-- The two halves of the block, and of the result. -/
abbrev xTop : Memref sig .tc .hbm S1x2048x2048 .f32 := xM.slice topR (fun _ => rfl)
/-- The block's bottom half, -/
abbrev xBot : Memref sig .tc .hbm S1x2048x2048 .f32 := xM.slice botR (fun _ => rfl)
/-- the result's top half, -/
abbrev vTop : Memref sig .tc .hbm S1x2048x2048 .f32 := vM.slice topR (fun _ => rfl)
/-- and its bottom half. -/
abbrev vBot : Memref sig .tc .hbm S1x2048x2048 .f32 := vM.slice botR (fun _ => rfl)

/-- A row is in the top half or in the bottom half, -/
theorem halves_union : topR.set ∪ botR.set = (Finset.univ : Finset S1x4096x2048.Idx) := by
  ext i
  simp only [Finset.mem_union, Rect.mem_set_unit, Finset.mem_univ, iff_true]
  have h0 : (i 0 : ℕ) < 1 := (i 0).isLt
  have h1 : (i 1 : ℕ) < 4096 := (i 1).isLt
  have h2 : (i 2 : ℕ) < 2048 := (i 2).isLt
  rcases Nat.lt_or_ge (i 1 : ℕ) 2048 with h | h
  · refine Or.inl fun a => ?_
    fin_cases a
    · exact ⟨Nat.zero_le _, h0⟩
    · exact ⟨Nat.zero_le _, h⟩
    · exact ⟨Nat.zero_le _, h2⟩
  · refine Or.inr fun a => ?_
    fin_cases a
    · exact ⟨Nat.zero_le _, h0⟩
    · exact ⟨h, h1⟩
    · exact ⟨Nat.zero_le _, h2⟩

/-- and in one of them only. -/
theorem halves_disjoint : Disjoint topR.set (botR.set : Finset S1x4096x2048.Idx) := by
  rw [Finset.disjoint_left]
  intro i ht hb
  rw [Rect.mem_set_unit] at ht hb
  have h1 : (i 1 : ℕ) < 0 + 2048 := (ht 1).2
  have h2 : 2048 ≤ (i 1 : ℕ) := (hb 1).1
  omega

/-- The places of each half are its rectangle's: the block's top, -/
theorem xTop_set : xTop.view.set = topR.set := View.set_slice_whole _ _
/-- its bottom, -/
theorem xBot_set : xBot.view.set = botR.set := View.set_slice_whole _ _
/-- the result's top, -/
theorem vTop_set : vTop.view.set = topR.set := View.set_slice_whole _ _
/-- and its bottom. -/
theorem vBot_set : vBot.view.set = botR.set := View.set_slice_whole _ _

/-- The halves of a device's block at contents `f`, and of its result. -/
abbrev xTopPts (c : Dev nD) (f : Buf (Elt F) ((c : Thread nD τ).loc main_arg0)) : sProp 𝕄 :=
  xTop.view.loc (c : Thread nD τ) ↦[xTop.view.set]{fullShare} f
/-- The block's bottom half at contents `f`, -/
abbrev xBotPts (c : Dev nD) (f : Buf (Elt F) ((c : Thread nD τ).loc main_arg0)) : sProp 𝕄 :=
  xBot.view.loc (c : Thread nD τ) ↦[xBot.view.set]{fullShare} f
/-- the result's top half, -/
abbrev vTopPts (c : Dev nD) (f : Buf (Elt F) ((c : Thread nD τ).loc main_v1)) : sProp 𝕄 :=
  vTop.view.loc (c : Thread nD τ) ↦[vTop.view.set]{fullShare} f
/-- and its bottom half. -/
abbrev vBotPts (c : Dev nD) (f : Buf (Elt F) ((c : Thread nD τ).loc main_v1)) : sProp 𝕄 :=
  vBot.view.loc (c : Thread nD τ) ↦[vBot.view.set]{fullShare} f

/-- Whole, at contents `f`. -/
abbrev xPts (c : Dev nD) (f : Buf (Elt F) ((c : Thread nD τ).loc main_arg0)) : sProp 𝕄 :=
  ((c : Thread nD τ).loc main_arg0) ↦{fullShare} f
/-- The result's buffer, whole, at contents `f`. -/
abbrev vPts (c : Dev nD) (f : Buf (Elt F) ((c : Thread nD τ).loc main_v1)) : sProp 𝕄 :=
  ((c : Thread nD τ).loc main_v1) ↦{fullShare} f

omit [FloatOps F] in
/-- A block is its two halves. -/
theorem x_halves (c : Dev nD) (f : Buf (Elt F) ((c : Thread nD τ).loc main_arg0)) :
    (xPts c f : sProp 𝕄) ⊣⊢ iprop(xTopPts c f ∗ xBotPts c f) := by
  show (((c : Thread nD τ).loc main_arg0) ↦[Finset.univ]{fullShare} f : sProp 𝕄) ⊣⊢ _
  rw [xTopPts, xBotPts, xTop_set, xBot_set, ← halves_union]
  exact pointsTo_union halves_disjoint

omit [FloatOps F] in
/-- A result is its two halves. -/
theorem v_halves (c : Dev nD) (f : Buf (Elt F) ((c : Thread nD τ).loc main_v1)) :
    (vPts c f : sProp 𝕄) ⊣⊢ iprop(vTopPts c f ∗ vBotPts c f) := by
  show (((c : Thread nD τ).loc main_v1) ↦[Finset.univ]{fullShare} f : sProp 𝕄) ⊣⊢ _
  rw [vTopPts, vBotPts, vTop_set, vBot_set, ← halves_union]
  exact pointsTo_union halves_disjoint

/-- The block device `c` is given, and what its result's buffer holds at launch. -/
def given (c : Dev nD) : Buf (Elt F) ((c : Thread nD τ).loc main_arg0) := m ((c : Thread nD τ).loc main_arg0)
/-- What its result's buffer holds at launch. -/
def stale (c : Dev nD) : Buf (Elt F) ((c : Thread nD τ).loc main_v1) := m ((c : Thread nD τ).loc main_v1)
/-- The result of the run on `c`: the block of the device it comes from. -/
def result (sw : Bool) (c : Dev nD) : Buf (Elt F) ((c : Thread nD τ).loc main_v1) := given m (origin sw c)

omit [FloatOps F] in
/-- Writing the top half of `c`'s block over the top half of its peer's result gives the peer's result there. -/
theorem landed_top (c : Dev nD) (f : Buf (Elt F) ((peer c : Thread nD τ).loc main_v1)) :
    (vTopPts (peer c) (vTop.view.write (Elt F) f (xTop.view.read (Elt F) (given m c)) Finset.univ) : sProp 𝕄)
      = vTopPts (peer c) (result m true (peer c)) := by
  refine pointsTo_congr fun i hi => ?_
  obtain ⟨j, -, rfl⟩ := Finset.mem_map.mp hi
  rw [View.write_emb_of_mem (v := vTop.view) _ _ (Finset.mem_univ j)]
  unfold result origin
  rw [if_pos rfl, peer_peer]
  rfl

omit [FloatOps F] in
/-- The same of the bottom halves. -/
theorem landed_bot (c : Dev nD) (f : Buf (Elt F) ((peer c : Thread nD τ).loc main_v1)) :
    (vBotPts (peer c) (vBot.view.write (Elt F) f (xBot.view.read (Elt F) (given m c)) Finset.univ) : sProp 𝕄)
      = vBotPts (peer c) (result m true (peer c)) := by
  refine pointsTo_congr fun i hi => ?_
  obtain ⟨j, -, rfl⟩ := Finset.mem_map.mp hi
  rw [View.write_emb_of_mem (v := vBot.view) _ _ (Finset.mem_univ j)]
  unfold result origin
  rw [if_pos rfl, peer_peer]
  rfl

omit [FloatOps F] in
/-- Writing `c`'s block over its own result gives the result of the run that keeps blocks. -/
theorem landed_copy (c : Dev nD) (f : Buf (Elt F) ((c : Thread nD τ).loc main_v1)) :
    (vM.view.loc (c : Thread nD τ) ↦[vM.view.set]{fullShare} (vM.view.write (Elt F) f (xM.view.read (Elt F) (given m c)) Finset.univ) : sProp 𝕄)
      = vPts c (result m false c) := by
  have hset : vM.view.set = Finset.univ := View.set_whole main_v1
  have hval : (vM.view.loc (c : Thread nD τ) ↦[vM.view.set]{fullShare} (vM.view.write (Elt F) f (xM.view.read (Elt F) (given m c)) Finset.univ) : sProp 𝕄)
      = (vM.view.loc (c : Thread nD τ) ↦[vM.view.set]{fullShare} (result m false c)) := by
    refine pointsTo_congr fun i hi => ?_
    obtain ⟨j, -, rfl⟩ := Finset.mem_map.mp hi
    rw [View.write_emb_of_mem (v := vM.view) _ _ (Finset.mem_univ j)]
    unfold result origin
    rw [if_neg Bool.false_ne_true]
    rfl
  rw [hval, hset]

omit [FloatOps F] in
/-- The block as the copy's source names it. -/
theorem x_whole (c : Dev nD) (f : Buf (Elt F) ((c : Thread nD τ).loc main_arg0)) :
    (xM.view.loc (c : Thread nD τ) ↦[xM.view.set]{fullShare} f : sProp 𝕄) = xPts c f := by
  rw [show xM.view.set = Finset.univ from View.set_whole main_arg0]

omit [FloatOps F] in
/-- The result buffer as the copy's target names it. -/
theorem v_whole (c : Dev nD) (f : Buf (Elt F) ((c : Thread nD τ).loc main_v1)) :
    (vM.view.loc (c : Thread nD τ) ↦[vM.view.set]{fullShare} f : sProp 𝕄) = vPts c f := by
  rw [show vM.view.set = Finset.univ from View.set_whole main_v1]

/-! ## Semaphores -/

/-- The barrier semaphore, -/
abbrev barS : Sem sig := (SemArray.scalar (sig.barrier 0 rfl) : Sems sig S_).sem
/-- the send semaphores of the top half -/
abbrev sndTopS : DmaSems sig S_ := (cc0_scratch0.slice (Rect.unit (s := S2) ![0] S1.size inb_S2_S1_0)).squeeze S_ squeezes_S1_S_
/-- and of the bottom half, -/
abbrev sndBotS : DmaSems sig S_ := (cc0_scratch0.slice (Rect.unit (s := S2) ![1] S1.size inb_S2_S1_1)).squeeze S_ squeezes_S1_S_
/-- the receive semaphores of the top half -/
abbrev rcvTopS : DmaSems sig S_ := (cc0_scratch1.slice (Rect.unit (s := S2) ![0] S1.size inb_S2_S1_0)).squeeze S_ squeezes_S1_S_
/-- and of the bottom half, -/
abbrev rcvBotS : DmaSems sig S_ := (cc0_scratch1.slice (Rect.unit (s := S2) ![1] S1.size inb_S2_S1_1)).squeeze S_ squeezes_S1_S_
/-- and the local copy's. -/
abbrev cpyS : DmaSems sig S_ := cc0_scratch2

/-- The kernel's own five semaphores, in the order of their declaration. -/
abbrev osem : Fin 5 → SemLoc sig
  | 0 => .dma sndTopS.sem | 1 => .dma sndBotS.sem | 2 => .dma rcvTopS.sem | 3 => .dma rcvBotS.sem | 4 => .dma cpyS.sem

/-- All six, the barrier semaphore first. -/
abbrev csem : Fin 6 → SemLoc sig
  | 0 => .reg barS | 1 => .dma sndTopS.sem | 2 => .dma sndBotS.sem | 3 => .dma rcvTopS.sem | 4 => .dma rcvBotS.sem | 5 => .dma cpyS.sem

/-- The six are different. -/
theorem csem_inj : Function.Injective csem := by decide

/-- A device's semaphore cell number `k`. -/
abbrev cell (c : Dev nD) (k : Fin 6) : GSem nD τ sig := ((c : Thread nD τ), csem k)

/-- Cells are equal only when both the device and the number are. -/
theorem cell_eq_iff {a b : Dev nD} {j k : Fin 6} : cell a j = cell b k ↔ a = b ∧ j = k :=
  ⟨fun h => ⟨Fin.ext (congrArg (fun g : GSem nD τ sig => g.1.1.val) h), csem_inj (congrArg Prod.snd h)⟩,
    fun ⟨h, h'⟩ => by rw [h, h']⟩

/-- The credit of half a block, and of a block. -/
abbrev N : ℕ := vTop.view.dmaCredit
/-- The credit of a whole block. -/
abbrev NW : ℕ := vM.view.dmaCredit

/-- Which cells the run uses: all but the copy's when blocks are swapped, only the copy's when they are kept. -/
def used (sw : Bool) (k : Fin 6) : Bool := if sw then decide (k ≠ 5) else decide (k = 5)

/-- What one credit of cell `k` of device `c` carries. The barrier's: the result buffer of the device across `y`.
    A send semaphore's: the half of the block that has left. A receive semaphore's: the half of the result that has
    arrived. The copy's: the whole result, with the block. -/
def carries (sw : Bool) (c : Dev nD) : Fin 6 → sProp 𝕄
  | 0 => vPts (peer c) (stale m (peer c))
  | 1 => xTopPts c (given m c)
  | 2 => xBotPts c (given m c)
  | 3 => vTopPts c (result m sw c)
  | 4 => vBotPts c (result m sw c)
  | 5 => iprop(vPts c (result m sw c) ∗ xPts c (given m c))

/-- The number of a semaphore among the six; any other counts as the first. -/
def num (s : SemLoc sig) : Fin 6 :=
  if s = csem 1 then 1 else if s = csem 2 then 2 else if s = csem 3 then 3 else if s = csem 4 then 4
    else if s = csem 5 then 5 else 0

/-- The number of semaphore number `k` is `k`. -/
theorem num_csem (k : Fin 6) : num (csem k) = k := by revert k; decide

/-- The amount a credit of cell `k` is. -/
def amt (k : Fin 6) : ℕ := if k = 0 then 1 else if k = 5 then NW else N

/-- No credit is zero. -/
theorem amt_pos (k : Fin 6) : 0 < amt k := by
  unfold amt
  split
  · exact Nat.one_pos
  · split
    · exact View.dmaCredit_pos _ (by decide)
    · exact View.dmaCredit_pos _ (by decide)

/-- The schedule: each used cell has one credit, in its first round. -/
def plan (sw : Bool) : Rounds.Schedule (GSem nD τ sig) Unit 𝕄 where
  duties g r := if r = 0 ∧ g.1.2 = .tc ∧ g.2 = csem (num g.2) ∧ used sw (num g.2) = true then {()} else ∅
  unitless _ := False
  amount g _ _ := amt (num g.2)
  payload g _ _ := carries m sw g.1.1 (num g.2)
  amount_pos g _ _ _ := amt_pos _

omit [FloatOps F] in
/-- What a credit carries may be kept in an invariant, -/
theorem carries_storable (sw : Bool) (c : Dev nD) (k : Fin 6) : BI.Storable (upEmb : UEmb _ 𝕄) (carries m sw c k) := by
  fin_cases k <;> (dsimp only [carries]; infer_instance)

/-- and so may every payload of the schedule. -/
instance plan_storable (sw : Bool) (g : GSem nD τ sig) (r : ℕ) (d : Unit) :
    BI.Storable (upEmb : UEmb _ 𝕄) ((plan m sw).payload g r d) := carries_storable m sw _ _

omit [FloatOps F] in
/-- A used cell has its payment in the first round, -/
theorem duty_mem (sw : Bool) (c : Dev nD) (k : Fin 6) (h : used sw k = true) : () ∈ (plan m sw).duties (cell c k) 0 := by
  dsimp only [plan, cell]; rw [num_csem, if_pos ⟨rfl, rfl, rfl, h⟩]; exact Finset.mem_singleton_self _

omit [FloatOps F] in
/-- and it is the only one there; -/
theorem duties_used (sw : Bool) (c : Dev nD) (k : Fin 6) (h : used sw k = true) : (plan m sw).duties (cell c k) 0 = {()} := by
  dsimp only [plan, cell]; rw [num_csem, if_pos ⟨rfl, rfl, rfl, h⟩]

omit [FloatOps F] in
/-- no cell has one in a later round, -/
theorem duties_later (sw : Bool) (g : GSem nD τ sig) : ∀ r, 1 ≤ r → (plan m sw).duties g r = ∅ := fun r hr => by
  dsimp only [plan]; exact if_neg fun h => by omega

omit [FloatOps F] in
/-- and a cell that is not used has none at all. -/
theorem duties_unused (sw : Bool) (c : Dev nD) (k : Fin 6) (h : used sw k = false) :
    ∀ r, 0 ≤ r → (plan m sw).duties (cell c k) r = ∅ := fun r _ => by
  dsimp only [plan, cell]; rw [num_csem]; exact if_neg fun h' => by rw [h] at h'; exact Bool.noConfusion h'.2.2.2

omit [FloatOps F] in
/-- The amount of a payment into cell `k`, -/
theorem amount_cell (sw : Bool) (c : Dev nD) (k : Fin 6) (r : ℕ) (d : Unit) : (plan m sw).amount (cell c k) r d = amt k := by
  dsimp only [plan, cell]; rw [num_csem]

omit [FloatOps F] in
/-- and what it carries. -/
theorem payload_cell (sw : Bool) (c : Dev nD) (k : Fin 6) (r : ℕ) (d : Unit) :
    (plan m sw).payload (cell c k) r d = carries m sw c k := by
  dsimp only [plan, cell]; rw [num_csem]

omit [FloatOps F] in
/-- A used cell waits for just that amount, -/
theorem expect_cell (sw : Bool) (c : Dev nD) (k : Fin 6) (h : used sw k = true) : (plan m sw).expect (cell c k) 0 = amt k := by
  unfold Schedule.expect Schedule.amountOf
  rw [duties_used m sw c k h, Finset.sum_singleton, amount_cell]

omit [FloatOps F] in
/-- and a wait for it gives just what the payment carries. -/
theorem rest_cell (sw : Bool) (c : Dev nD) (k : Fin 6) (h : used sw k = true) :
    bigSep ((plan m sw).duties (cell c k) 0 \ ∅) (fun u => (plan m sw).payload (cell c k) 0 u) = carries m sw c k := by
  rw [Finset.sdiff_empty, duties_used m sw c k h, bigSep_singleton, payload_cell]

/-! ## What each device owes at launch, and the order of the waits -/

/-- What is still owed after the signal: the two halves' arrivals at the device across `y`; after the first transfer, one. -/
def owes₂ (c : Dev nD) : CellTallies nD τ sig Unit := tallyAt (cell (peer c) 4) () N
/-- After the signal: both arrivals. -/
def owes₁ (c : Dev nD) : CellTallies nD τ sig Unit := owes₂ c + tallyAt (cell (peer c) 3) () N
/-- At launch: when blocks are swapped, the two arrivals and the signal; nothing when they are kept. -/
def O₀ (sw : Bool) (c : Dev nD) : CellTallies nD τ sig Unit := if sw then owes₁ c + tallyAt (cell (peer c) 0) () 1 else 0

/-- Levels: the barrier is waited for before the arrivals. -/
def L (g : GSem nD τ sig) : Finset Unit := if g.1.2 = .tc then {()} else ∅
/-- The barrier is at level 1, the receive semaphores at level 2, all others at 0. -/
def lv (g : GSem nD τ sig) (_ : Unit) : ℕ :=
  if g.2 = csem 0 then 1 else if g.2 = csem 3 then 2 else if g.2 = csem 4 then 2 else 0
/-- The level of cell number `k`. -/
def lvl (k : Fin 6) : ℕ := if k = 0 then 1 else if k = 3 ∨ k = 4 then 2 else 0
/-- The two ways to write a level agree, -/
theorem lvl_eq (k : Fin 6) : (if csem k = csem 0 then 1 else if csem k = csem 3 then 2 else if csem k = csem 4 then 2 else 0) = lvl k := by
  revert k; decide
/-- so cell number `k` is at level `lvl k`. -/
theorem lv_cell (c : Dev nD) (k : Fin 6) (u : Unit) : lv (cell c k) u = lvl k := lvl_eq k
/-- Only the cells of the main cores have levels, -/
theorem L_of_ne (g : GSem nD τ sig) (h : g.1.2 ≠ .tc) : L g = ∅ := if_neg h
/-- and those all do. -/
theorem L_tc (c : Dev nD) (s : SemLoc sig) : L ((c : Thread nD τ), s) = {()} := if_pos rfl

/-- A tally of one cell counts that cell alone. -/
theorem tallyAt_pos {g g' : GSem nD τ sig} {u : Unit} {n : ℕ} (h : 0 < (tallyAt g () n : CellTallies nD τ sig Unit) g' u) : g' = g := by
  rw [tallyAt_apply] at h
  by_contra hn
  rw [if_neg (fun h' => hn h'.1)] at h
  exact Nat.lt_irrefl 0 h

/-- After the signal a device owes only the two arrivals, -/
theorem owes₁_pos {c : Dev nD} {g : GSem nD τ sig} {u : Unit} (h : 0 < owes₁ c g u) :
    g = cell (peer c) 4 ∨ g = cell (peer c) 3 := by
  unfold owes₁ owes₂ at h
  rw [Pi.add_apply, Finsupp.add_apply] at h
  rcases Nat.add_pos_iff_pos_or_pos.mp h with h | h
  · exact Or.inl (tallyAt_pos h)
  · exact Or.inr (tallyAt_pos h)

/-- and before it these and the signal. -/
theorem O₀_pos {sw : Bool} {c : Dev nD} {g : GSem nD τ sig} {u : Unit} (h : 0 < O₀ sw c g u) :
    g = cell (peer c) 4 ∨ g = cell (peer c) 3 ∨ g = cell (peer c) 0 := by
  unfold O₀ at h
  split at h
  · rw [Pi.add_apply, Finsupp.add_apply] at h
    rcases Nat.add_pos_iff_pos_or_pos.mp h with h | h
    · rcases owes₁_pos h with h | h
      · exact Or.inl h
      · exact Or.inr (Or.inl h)
    · exact Or.inr (Or.inr (tallyAt_pos h))
  · exact absurd h (Nat.lt_irrefl 0)

omit [FloatOps F] in
/-- The pipeline may wait for the table's staging whatever is owed: no debt is of a lower level. -/
theorem mayWait_stage (sw : Bool) (c : Dev nD) (q : DmaSem sig) (hq : SemLoc.dma q ≠ csem 3 ∧ SemLoc.dma q ≠ csem 4)
    (O : CellTallies nD τ sig Unit) (hO : O = O₀ sw c ∨ O = 0) :
    (levAts L lv : sProp 𝕄) ⊢ MayWait (c : Thread nD τ) (.dma q) () O := by
  rcases hO with rfl | rfl
  · refine MayOwe.of_cut (L := L) (lev := lv) 0 (fun p hp => ?_) (fun g u hg => ?_) (fun p hp => ?_) (fun g u hg => ?_)
    · rw [Finset.mem_singleton.mp hp, L_tc]; exact Finset.mem_singleton_self _
    · rcases O₀_pos hg with h | h | h <;> (rw [h, L_tc]; exact Finset.mem_singleton_self _)
    · rw [Finset.mem_singleton.mp hp]; dsimp only [lv]
      rw [if_neg (fun h => by cases h), if_neg hq.1, if_neg hq.2]
    · rcases O₀_pos hg with h | h | h <;> (rw [h, lv_cell]; decide)
  · rw [MayWait_zero]; iintro -; iempintro

omit [FloatOps F] in
/-- A device may wait on the barrier while it owes the two arrivals: they are of a higher level. -/
theorem mayWait_bar (c : Dev nD) : (levAts L lv : sProp 𝕄) ⊢ MayWait (c : Thread nD τ) (csem 0) () (owes₁ c) := by
  refine MayOwe.of_cut (L := L) (lev := lv) 1 (fun p hp => ?_) (fun g u hg => ?_) (fun p hp => ?_) (fun g u hg => ?_)
  · rw [Finset.mem_singleton.mp hp, L_tc]; exact Finset.mem_singleton_self _
  · rcases owes₁_pos hg with h | h <;> (rw [h, L_tc]; exact Finset.mem_singleton_self _)
  · rw [Finset.mem_singleton.mp hp]; exact (lv_cell c 0 ()).le
  · rcases owes₁_pos hg with h | h <;> (rw [h, lv_cell]; decide)

end Cert.KernelIdeal.Swap

end
-- ==== Proof.IdealBody.lean ====
module

public import proofs.«01_k».proof.Proof.IdealCells

@[expose] public section

/-!
# One device's run of the kernel

The kernel on a symbolic device `c`, effect by effect. It starts with the device's block and result buffer, its
positions in the six cells, and the right to pay the credits it pays; it ends with the block unchanged, the result
buffer holding the block of the device it comes from, and the six counters at zero.
-/

noncomputable section

namespace Cert.KernelIdeal.Swap

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (sw : Bool)

/-! ## What a device holds -/

/-- What every device knows: each cell follows the schedule and has reached its first round. -/
def records (K : Dev nD × Fin 6 → ℕ) : sProp 𝕄 :=
  iprop((bigSep Finset.univ fun ck : Dev nD × Fin 6 => cellInv ER (plan m sw) (K ck) (cell ck.1 ck.2))
    ∗ bigSep Finset.univ fun ck : Dev nD × Fin 6 => reached ER (cell ck.1 ck.2) 0)

/-- The record may be read any number of times. -/
instance records_persistent (K : Dev nD × Fin 6 → ℕ) : BI.Persistent (records m sw K) := by
  unfold records; infer_instance

omit [FloatOps F] in
/-- It gives each cell's invariant, -/
theorem records_inv (K : Dev nD × Fin 6 → ℕ) (c : Dev nD) (k : Fin 6) :
    records m sw K ⊢ cellInv ER (plan m sw) (K (c, k)) (cell c k) := by
  have h : (bigSep Finset.univ fun ck : Dev nD × Fin 6 => (cellInv ER (plan m sw) (K ck) (cell ck.1 ck.2) : sProp 𝕄))
      ⊢ cellInv ER (plan m sw) (K (c, k)) (cell c k) := bigSep_elim (Finset.mem_univ (c, k))
  unfold records; iintro ⟨H, -⟩
  iapply h; iexact H

omit [FloatOps F] in
/-- and that each cell has reached its first round. -/
theorem records_reached (K : Dev nD × Fin 6 → ℕ) (c : Dev nD) (k : Fin 6) :
    records m sw K ⊢ reached ER (cell c k) 0 := by
  have h : (bigSep Finset.univ fun ck : Dev nD × Fin 6 => (reached ER (cell ck.1 ck.2) 0 : sProp 𝕄))
      ⊢ reached ER (cell c k) 0 := bigSep_elim (Finset.mem_univ (c, k))
  unfold records; iintro ⟨-, H⟩
  iapply h; iexact H

/-- The right to make the one payment into cell `k` of device `c`. -/
abbrev tok (c : Dev nD) (k : Fin 6) : sProp 𝕄 := dutyTok ER (cell c k) 0 ()
/-- The position before the first round of cell `k` of device `c`. -/
abbrev fresh (c : Dev nD) (k : Fin 6) : sProp 𝕄 := atPos ER (cell c k) 0 ∅ 0

/-- The payments device `c` makes: into the barrier and the receive semaphores of the device across `y`, and into its
    own send and copy semaphores. -/
def payToks (c : Dev nD) : sProp 𝕄 :=
  iprop(tok (peer c) 0 ∗ tok c 1 ∗ tok c 2 ∗ tok (peer c) 3 ∗ tok (peer c) 4 ∗ tok c 5)

/-- The positions of device `c` in its own cells. -/
def positions (c : Dev nD) : sProp 𝕄 :=
  iprop(fresh c 0 ∗ fresh c 1 ∗ fresh c 2 ∗ fresh c 3 ∗ fresh c 4 ∗ fresh c 5)

/-- A device's share of the exchange: the record, its positions and the payments it makes. -/
def ghost (K : Dev nD × Fin 6 → ℕ) (c : Dev nD) : sProp 𝕄 := iprop(records m sw K ∗ positions c ∗ payToks c)

/-- The credits of device `c`'s cells that other devices owe it. -/
def dues (c : Dev nD) : sProp 𝕄 :=
  if sw then iprop(cred (tallyAt (cell c 0) () (amt 0)) ∗ cred (tallyAt (cell c 3) () (amt 3)) ∗ cred (tallyAt (cell c 4) () (amt 4)))
  else iprop(emp)

/-- What device `c` starts the kernel with. -/
def start (c : Dev nD) : sProp 𝕄 :=
  iprop((∃ K, ghost m sw K c) ∗ dues sw c ∗ levAts L lv ∗ xPts c (given m c) ∗ vPts c (stale m c))

/-- The six counters of device `c` at zero. -/
def zeros (c : Dev nD) : sProp 𝕄 :=
  iprop(semVal (cell c 0) 0 ∗ semVal (cell c 1) 0 ∗ semVal (cell c 2) 0 ∗ semVal (cell c 3) 0 ∗ semVal (cell c 4) 0 ∗ semVal (cell c 5) 0)

/-- What it ends with. -/
def done (c : Dev nD) : sProp 𝕄 := iprop(xPts c (given m c) ∗ vPts c (result m sw c) ∗ zeros c)

/-- The pipeline's data: its one window stages the table, whole; the rest is the exchange's. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => tableStaged m ρ c
  Φ t := match t with
    | ⟨0, _⟩ => start m sw c
    | ⟨_ + 1, _⟩ => done m sw c
  q _ := fullShare
  owed t := match t with
    | ⟨0, _⟩ => O₀ sw c
    | ⟨_ + 1, _⟩ => 0

/-- No loop of this kernel needs a measure. -/
abbrev 𝒱₀ : Variants := Variants.none

/-- The pipeline has one step; -/
theorem steps_one : cfg0.N = 1 := by decide
/-- this one, -/
def t₀ : Fin cfg0.N := ⟨0, by rw [steps_one]; decide⟩
/-- and no other. -/
theorem step_eq (t : Fin cfg0.N) : t = t₀ := by
  obtain ⟨t, ht⟩ := t
  have := steps_one
  exact Fin.ext (by simp only [t₀]; omega)

omit [FloatOps F] in
/-- It has one window, the table's, -/
theorem bigSep_windows (Φ : Fin cfg0.W → sProp 𝕄) : bigSep Finset.univ Φ = Φ (0 : Fin 1) := bigSep_W0 Φ
/-- which the one step fetches. -/
theorem fetches (t : Fin cfg0.N) : (cfg0.win (0 : Fin 1)).fetch t = true := by rw [step_eq t]; rfl

/-- A whole staging buffer, its contents named. -/
abbrev staged (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
/-- Owning a whole staging buffer at `X` is holding it at a content that is `X`. -/
theorem owns_staged (c : Dev nD) (b : Ref sig .tc) (X : b.ty.Contents (Elt F)) :
    (owns (Ix := Unit) (Name := ℕ) (U := UU) (Lvl := ℕ) (c : Thread nD τ) (Memref.whole b) fullShare X : sProp 𝕄) = staged c b X := by
  unfold owns staged; simp only [Memref.view_whole, View.read_whole, View.set_whole]

/-! ## The steps -/

section Steps

variable (K : Dev nD × Fin 6 → ℕ) (c : Dev nD)

/-- A wait for the whole credit of a used cell gives what the credit carries, and the counter at zero for good. -/
theorem step_wait (k : Fin 6) (hu : used sw k = true) {w : TpuEff nD τ sig (Elt F) Λ₀ .tc PUnit}
    {α : Type} {Q : α → sProp 𝕄} {k' : PUnit → Prog (TpuEff nD τ sig (Elt F) Λ₀ .tc) α}
    (hw : ∀ K' : PUnit → sProp 𝕄, wpE (defs₀ (F := F)) 𝒱₀ (c : Thread nD τ) none Set.univ w K'
      = waitSpec (c : Thread nD τ) Set.univ (csem k) (amt k) K')
    (O : CellTallies nD τ sig Unit) (W : Waits sig Unit) :
    iprop(records m sw K ∗ cred (tallyAt (cell c k) () (amt k)) ∗ owes (c : Thread nD τ) O W
        ∗ MayWait (c : Thread nD τ) (csem k) () O ∗ fresh c k)
      ⊢ iprop(((owes (c : Thread nD τ) O (insert (csem k, ()) W) ∗ carries m sw c k ∗ semVal (cell c k) 0) -∗ wp frame (wpE (defs₀ (F := F)) 𝒱₀ (c : Thread nD τ) none) Set.univ (k' ⟨⟩) Q)
          -∗ wp frame (wpE (defs₀ (F := F)) 𝒱₀ (c : Thread nD τ) none) Set.univ (.op w k') Q) := by
  iintro ⟨#HR, Hc, HO, HM, Hat⟩ Hk
  ihave #HI := (records_inv m sw K c k) $$ HR
  have hk : 0 + amt k = (plan m sw).expect ((c : Thread nD τ), csem k) 0 := by rw [Nat.zero_add]; exact (expect_cell m sw c k hu).symm
  iapply (Rounds.wp_wait_rest_token 𝒱₀ ER (plan m sw) (c : Thread nD τ) none (κ := K (c, k)) hw (Set.mem_univ _) ()
      (O := O) (W := W) (R := 0) (m := 0) (T := ∅) hk) $$ [Hc HO HM Hat]
  · isplitr; · iexact HI
    isplitl [Hc]; · iexact Hc
    isplitl [HO]; · iexact HO
    isplitl [HM]; · iexact HM
    iexact Hat
  iintro ⟨HO, Hat, -, Hpay⟩
  ihave Hp := (Entails.of_eq (rest_cell m sw c k hu)) $$ Hpay
  imod (Rounds.cell_close ER (plan m sw) (Set.mem_univ (K (c, k))) (fun h => h) (R := 0 + 1) (duties_later m sw (cell c k))) $$ [Hat] with Hz
  · isplitr; · iexact HI
    iexact Hat
  iapply Hk
  isplitl [HO]; · iexact HO
  isplitl [Hp]; · iexact Hp
  iexact Hz

/-- The same for a transfer's semaphore `q`, the wait naming a destination whose credit is the cell's. -/
theorem step_wait_dma (k : Fin 6) (hu : used sw k = true) (q : DmaSem sig) (hq : csem k = .dma q)
    {sp sp' : Space} {s s' : Shape} {e e' : EltTy} (src : Memref sig .tc sp' s' e') (dst : Memref sig .tc sp s e)
    (hd : dst.view.dmaCredit = amt k) {hsrc : src.view.WordExact} {hdst : dst.view.WordExact}
    (O : CellTallies nD τ sig Unit) (W : Waits sig Unit)
    {α : Type} {Q : α → sProp 𝕄} {k' : PUnit → Prog (TpuEff nD τ sig (Elt F) Λ₀ .tc) α} :
    iprop(records m sw K ∗ cred (tallyAt (cell c k) () (amt k)) ∗ owes (c : Thread nD τ) O W
        ∗ MayWait (c : Thread nD τ) (csem k) () O ∗ fresh c k)
      ⊢ iprop(((owes (c : Thread nD τ) O (insert (csem k, ()) W) ∗ carries m sw c k ∗ semVal (cell c k) 0)
            -∗ wp frame (wpE (defs₀ (F := F)) 𝒱₀ (c : Thread nD τ) none) Set.univ (k' ⟨⟩) Q)
          -∗ wp frame (wpE (defs₀ (F := F)) 𝒱₀ (c : Thread nD τ) none) Set.univ (.op (.waitDma2 q src dst hsrc hdst) k') Q) :=
  step_wait m sw K c k hu (fun K' => by rw [hq, ← hd]; exact wpE_waitDma2_eq 𝒱₀ (c : Thread nD τ) none Set.univ K') O W

omit [FloatOps F] in
/-- A cell the run does not use has its counter at zero for good from the start. -/
theorem close_unused (k : Fin 6) (hu : used sw k = false) :
    iprop(records m sw K ∗ fresh c k) ⊢ (|={Set.univ}=> semVal (cell c k) 0 : sProp 𝕄) := by
  iintro ⟨#HR, Hat⟩
  ihave #HI := (records_inv m sw K c k) $$ HR
  iapply (Rounds.cell_close ER (plan m sw) (Set.mem_univ (K (c, k))) (fun h => h) (R := 0) (duties_unused m sw c k hu))
  isplitr; · iexact HI
  iexact Hat

/-- The signal to the device across `y`, which is handed `c`'s result buffer. -/
theorem step_signal (n : Dev nD) (hn : n = peer c) (W : Waits sig Unit)
    {α : Type} {Q : α → sProp 𝕄} {k' : PUnit → Prog (TpuEff nD τ sig (Elt F) Λ₀ .tc) α} :
    iprop(records m true K ∗ owes (c : Thread nD τ) (O₀ true c) W ∗ tok (peer c) 0 ∗ vPts c (stale m c))
      ⊢ iprop((owes (c : Thread nD τ) (owes₁ c) W -∗ wp frame (wpE (defs₀ (F := F)) 𝒱₀ (c : Thread nD τ) none) Set.univ (k' ⟨⟩) Q)
          -∗ wp frame (wpE (defs₀ (F := F)) 𝒱₀ (c : Thread nD τ) none) Set.univ (.op (.semSignal (Dev.tc n) barS (1#32 : BitVec 32).toInt) k') Q) := by
  subst hn
  rw [show (1#32 : BitVec 32).toInt = ((1#32 : BitVec 32).toNat : Int) from rfl]
  iintro ⟨#HR, HO, Ht, Hv⟩ Hk
  have hd : () ∈ (plan m true).duties (cell (peer c) 0) 0 := duty_mem m true (peer c) 0 rfl
  have ha : (plan m true).amount (cell (peer c) 0) 0 () = (1#32 : BitVec 32).toNat := (amount_cell m true (peer c) 0 0 ()).trans rfl
  have hO : O₀ true c = owes₁ c + tallyAt (cell (peer c) 0) () (1#32 : BitVec 32).toNat := rfl
  ihave #HI := (records_inv m true K (peer c) 0) $$ HR
  ihave #Hr := (records_reached m true K (peer c) 0) $$ HR
  iapply (Rounds.wp_signal 𝒱₀ ER (plan m true) (c : Thread nD τ) none (dst := (peer c : Thread nD τ)) (κ := K (peer c, 0))
      hd ha () (O₀ := O₀ true c) (owes₁ c) hO) $$ [HO Ht Hv]
  · isplitr; · iexact HI
    isplitl [HO]; · iexact HO
    isplitl [Ht]; · iexact Ht
    isplitl [Hv]
    · iapply (Entails.of_eq (payload_cell m true (peer c) 0 0 ()).symm)
      dsimp only [carries]; rw [peer_peer]; iexact Hv
    iexact Hr
  iexact Hk

/-- The transfer of the top half of the block to the device across `y`. -/
theorem step_send_top (n : Dev nD) (hn : n = peer c) (f : Buf (Elt F) ((peer c : Thread nD τ).loc main_v1)) (W : Waits sig Unit)
    {α : Type} {Q : α → sProp 𝕄} {k' : PUnit → Prog (TpuEff nD τ sig (Elt F) Λ₀ .tc) α}
    {hsrc : xTop.view.WordExact} {hdst : vTop.view.WordExact} {hsc : vTop.view.ref.isScScratch = false}
    {hsem : DmaTarget.Typed .hbm (.dma rcvTopS.sem) (.remote (n : Thread nD τ) vTop (.dma sndTopS.sem) hsc)} :
    iprop(records m true K ∗ xTopPts c (given m c) ∗ vTopPts (peer c) f ∗ owes (c : Thread nD τ) (owes₁ c) W ∗ tok c 1 ∗ tok (peer c) 3)
      ⊢ iprop(((cred (tallyAt (cell c 1) () (amt 1)) ∗ owes (c : Thread nD τ) (owes₂ c) W) -∗ wp frame (wpE (defs₀ (F := F)) 𝒱₀ (c : Thread nD τ) none) Set.univ (k' ⟨⟩) Q)
          -∗ wp frame (wpE (defs₀ (F := F)) 𝒱₀ (c : Thread nD τ) none) Set.univ (.op (.enqueueDma xTop (.remote (n : Thread nD τ) vTop (.dma sndTopS.sem) hsc) (.dma rcvTopS.sem) hsrc hdst hsem) k') Q) := by
  subst hn
  iintro ⟨#HR, Hx, Hv, HO, Hs, Hr⟩ Hk
  ihave #HI := (records_inv m true K c 1) $$ HR
  ihave #HI' := (records_inv m true K (peer c) 3) $$ HR
  ihave #Hg := (records_reached m true K c 1) $$ HR
  ihave #Hg' := (records_reached m true K (peer c) 3) $$ HR
  iapply (Rounds.wp_send_pointsTo 𝒱₀ ER (plan m true) (c : Thread nD τ) none (c' := (peer c : Thread nD τ)) (src := xTop) (dst := vTop) (sS := .dma sndTopS.sem) (sem := .dma rcvTopS.sem)
      (hsc := hsc) (hsrc := hsrc) (hdst := hdst) (hsem := hsem) (κ₁ := K (c, 1)) (κ₂ := K (peer c, 3))
      (r₁ := 0) (r₂ := 0) (d₁ := ()) (d₂ := ()) (fd := f) (fs := given m c)
      (duty_mem m true c 1 rfl) (duty_mem m true (peer c) 3 rfl) () () N rfl
      (amount_cell m true c 1 0 ()) (amount_cell m true (peer c) 3 0 ()) (owes₂ c) rfl (W := W)
      (Entails.of_eq (payload_cell m true c 1 0 ()).symm)
      (Entails.of_eq ((landed_top m c f).trans (payload_cell m true (peer c) 3 0 ()).symm))) $$ [Hx Hv HO Hs Hr]
  · isplitr; · iexact HI
    isplitr; · iexact HI'
    isplitl [Hx]; · iexact Hx
    isplitl [Hv]; · iexact Hv
    isplitl [HO]; · iexact HO
    isplitl [Hs]; · iexact Hs
    isplitr; · iexact Hg
    isplitl [Hr]; · iexact Hr
    iexact Hg'
  iexact Hk

/-- The transfer of the bottom half; nothing is owed after it. -/
theorem step_send_bot (n : Dev nD) (hn : n = peer c) (f : Buf (Elt F) ((peer c : Thread nD τ).loc main_v1)) (W : Waits sig Unit)
    {α : Type} {Q : α → sProp 𝕄} {k' : PUnit → Prog (TpuEff nD τ sig (Elt F) Λ₀ .tc) α}
    {hsrc : xBot.view.WordExact} {hdst : vBot.view.WordExact} {hsc : vBot.view.ref.isScScratch = false}
    {hsem : DmaTarget.Typed .hbm (.dma rcvBotS.sem) (.remote (n : Thread nD τ) vBot (.dma sndBotS.sem) hsc)} :
    iprop(records m true K ∗ xBotPts c (given m c) ∗ vBotPts (peer c) f ∗ owes (c : Thread nD τ) (owes₂ c) W ∗ tok c 2 ∗ tok (peer c) 4)
      ⊢ iprop(((cred (tallyAt (cell c 2) () (amt 2)) ∗ owes (c : Thread nD τ) 0 W) -∗ wp frame (wpE (defs₀ (F := F)) 𝒱₀ (c : Thread nD τ) none) Set.univ (k' ⟨⟩) Q)
          -∗ wp frame (wpE (defs₀ (F := F)) 𝒱₀ (c : Thread nD τ) none) Set.univ (.op (.enqueueDma xBot (.remote (n : Thread nD τ) vBot (.dma sndBotS.sem) hsc) (.dma rcvBotS.sem) hsrc hdst hsem) k') Q) := by
  subst hn
  iintro ⟨#HR, Hx, Hv, HO, Hs, Hr⟩ Hk
  ihave #HI := (records_inv m true K c 2) $$ HR
  ihave #HI' := (records_inv m true K (peer c) 4) $$ HR
  ihave #Hg := (records_reached m true K c 2) $$ HR
  ihave #Hg' := (records_reached m true K (peer c) 4) $$ HR
  iapply (Rounds.wp_send_pointsTo 𝒱₀ ER (plan m true) (c : Thread nD τ) none (c' := (peer c : Thread nD τ)) (src := xBot) (dst := vBot) (sS := .dma sndBotS.sem) (sem := .dma rcvBotS.sem)
      (hsc := hsc) (hsrc := hsrc) (hdst := hdst) (hsem := hsem) (κ₁ := K (c, 2)) (κ₂ := K (peer c, 4))
      (r₁ := 0) (r₂ := 0) (d₁ := ()) (d₂ := ()) (fd := f) (fs := given m c)
      (duty_mem m true c 2 rfl) (duty_mem m true (peer c) 4 rfl) () () N rfl
      (amount_cell m true c 2 0 ()) (amount_cell m true (peer c) 4 0 ()) 0 (zero_add _).symm (W := W)
      (Entails.of_eq (payload_cell m true c 2 0 ()).symm)
      (Entails.of_eq ((landed_bot m c f).trans (payload_cell m true (peer c) 4 0 ()).symm))) $$ [Hx Hv HO Hs Hr]
  · isplitr; · iexact HI
    isplitr; · iexact HI'
    isplitl [Hx]; · iexact Hx
    isplitl [Hv]; · iexact Hv
    isplitl [HO]; · iexact HO
    isplitl [Hs]; · iexact Hs
    isplitr; · iexact Hg
    isplitl [Hr]; · iexact Hr
    iexact Hg'
  iexact Hk

/-- The copy of the block to the device's own result. -/
theorem step_copy {hsrc : xM.view.WordExact} {hdst : vM.view.WordExact}
    {α : Type} {Q : α → sProp 𝕄} {k' : PUnit → Prog (TpuEff nD τ sig (Elt F) Λ₀ .tc) α}
    {hsem : DmaTarget.Typed (nD := nD) (τ := τ) (p := Proc.tc) .hbm (.dma cpyS.sem) (.here vM)} :
    iprop(records m false K ∗ xPts c (given m c) ∗ vPts c (stale m c) ∗ tok c 5)
      ⊢ iprop((cred (tallyAt (cell c 5) () (amt 5)) -∗ wp frame (wpE (defs₀ (F := F)) 𝒱₀ (c : Thread nD τ) none) Set.univ (k' ⟨⟩) Q)
          -∗ wp frame (wpE (defs₀ (F := F)) 𝒱₀ (c : Thread nD τ) none) Set.univ (.op (.enqueueDma xM (.here vM) (.dma cpyS.sem) hsrc hdst hsem) k') Q) := by
  iintro ⟨#HR, Hx, Hv, Ht⟩ Hk
  have hpay : iprop((vM.view.loc (c : Thread nD τ) ↦[vM.view.set]{fullShare} (vM.view.write (Elt F) (stale m c) (xM.view.read (Elt F) (given m c)) Finset.univ))
        ∗ (xM.view.loc (c : Thread nD τ) ↦[xM.view.set]{fullShare} (given m c)))
      ⊢ (plan m false).payload (cell c 5) 0 () := by
    rw [landed_copy, x_whole, payload_cell]
    exact Entails.refl _
  ihave #HI := (records_inv m false K c 5) $$ HR
  ihave #Hg := (records_reached m false K c 5) $$ HR
  iapply (Rounds.wp_copy_pointsTo 𝒱₀ ER (plan m false) (c : Thread nD τ) none (src := xM) (dst := vM) (sem := .dma cpyS.sem)
      (hsrc := hsrc) (hdst := hdst) (hsem := hsem) (κ := K (c, 5)) (q := fullShare)
      (fs := given m c) (fd := stale m c) (r := 0) (d := ()) (duty_mem m false c 5 rfl) () (amt 5) rfl (amount_cell m false c 5 0 ())
      hpay) $$ [Hx Hv Ht]
  · isplitr; · iexact HI
    isplitl [Hx]; · iapply (Entails.of_eq (x_whole c (given m c)).symm); iexact Hx
    isplitl [Hv]; · iapply (Entails.of_eq (v_whole c (stale m c)).symm); iexact Hv
    isplitl [Ht]; · iexact Ht
    iexact Hg
  iexact Hk

end Steps

/-! ## The whole body -/

/-- Before the body: the device's share of the exchange, what it owes, and the staging buffer. -/
def bodyPre (K : Dev nD × Fin 6 → ℕ) (c : Dev nD) : sProp 𝕄 :=
  iprop((ghost m sw K c ∗ dues sw c ∗ levAts L lv ∗ xPts c (given m c) ∗ vPts c (stale m c))
    ∗ (dats m ρ sw 0 c).owesAt () t₀.castSucc
    ∗ (∃ d, staged c cc0_stg0_0 ((dats m ρ sw 0 c).before (0 : Fin 1) t₀ d)))

/-- After it. -/
def bodyPost (c : Dev nD) : sProp 𝕄 :=
  iprop(done m sw c ∗ (dats m ρ sw 0 c).owesAt () t₀.succ ∗ staged c cc0_stg0_0 (tableStaged m ρ c))

/-- The kernel's body, at the buffers the launch gives it. -/
abbrev bodyProg : Prog (TpuEff nD τ sig (Elt F) Λ₀ .tc) PUnit :=
  cc0_body (Memref.whole main_arg0) (Memref.isWhole_whole _) (Memref.whole cc0_stg0_0) (hstage0_0 0)
    (Memref.whole main_v1) (Memref.isWhole_whole _) cc0_scratch0 cc0_scratch1 cc0_scratch2

set_option maxHeartbeats 4000000 in
/-- The body under the swapping table: the signal and the wait for the device across `y`, the two transfers, and the
    four waits, in the order the kernel makes them. -/
theorem body_swap (K : Dev nD × Fin 6 → ℕ) (h : Tables m true) (c : Dev nD) (Kt : PUnit → sProp 𝕄) :
    iprop(bodyPre m ρ true K c ∗ (bodyPost m ρ true c -∗ Kt ⟨⟩))
      ⊢ wp frame (wpE (defs₀ (F := F)) 𝒱₀ c none) Set.univ bodyProg Kt := by
  have hchk : k0_chk1 c (wordOf c (tableStaged m ρ c)) := by rw [h.word ρ c]; exact entry_chk true c
  have hne : sameCond c (wordOf c (tableStaged m ρ c)) ≠ 1#1 := by rw [h.word ρ c]; exact entry_same c
  have hot : k0_cond2 c (wordOf c (tableStaged m ρ c)) = 1#1 := by rw [h.word ρ c]; exact entry_other c
  have hd1 : k0_dev1 c (wordOf c (tableStaged m ρ c)) = (peer c).val := by rw [h.word ρ c]; exact entry_dev1 c
  have hd2 : k0_dev2 c (wordOf c (tableStaged m ρ c)) = (peer c).val := by rw [h.word ρ c]; exact entry_dev2 c
  have hd3 : k0_dev3 c (wordOf c (tableStaged m ρ c)) = (peer c).val := by rw [h.word ρ c]; exact entry_dev3 c
  unfold bodyProg
  simp only [cc0_body_eq_skeleton]; unfold cc0_body_skel
  simp only [smemLoad, smemLoadElt, Prog.lift, Prog.bind_op, Prog.bind_ret, Prog.pure_eq_ret, Prog.bind_assoc, wp_deviceId]
  unfold bodyPre ghost dues positions payToks
  rw [if_pos rfl]
  iintro ⟨⟨⟨⟨#HR, ⟨Ha0, Ha1, Ha2, Ha3, Ha4, Ha5⟩, Ht0, Ht1, Ht2, Ht3, Ht4, -⟩, ⟨Hc0, Hc3, Hc4⟩, #Hlev, Hx, Hv⟩, Ho, ⟨%d0, %g0, %hg0, Ht⟩⟩, Hk⟩
  have ht : g0 = tableStaged m ρ c := by rw [hg0]; unfold Dat.before; rw [if_pos (fetches t₀)]; rfl
  subst ht
  unfold Dat.owesAt Pipeline.owesWithin
  icases Ho with ⟨%W, %hW, HO⟩
  rw [show (dats m ρ true 0 c).owed t₀.castSucc = O₀ true c from rfl]
  -- the table's word, and the check of the devices computed from it
  iapply (wp_load_rect 𝒱₀ (c : Thread nD τ) none Set.univ (m := tM) (r := wordRect c) (Finset.subset_univ _)) $$ Ht; iintro Ht
  simp only [wp_assume_of _ _ _ _ (d := k0_chk1.dec _ _) hchk]
  -- it is not the device's own `y`
  rw [if_neg hne, dif_pos hot]
  simp only [k0_part1_eq_skeleton, k0_part1_skel, k0_part2_eq_skeleton, k0_part2_skel, semSignalWord, semWaitWord, Prog.lift, Prog.bind_op,
    Prog.bind_ret, Prog.pure_eq_ret, Prog.bind_assoc]
  -- the signal
  iapply (step_signal m K c _ (Fin.ext hd1) W) $$ [HO Ht0 Hv]
  · isplitr; · iexact HR
    isplitl [HO]; · iexact HO
    isplitl [Ht0]; · iexact Ht0
    iexact Hv
  iintro HO
  -- the wait for the other device's signal, which brings its result buffer
  rw [show (1#32 : BitVec 32).toInt = ((1#32 : BitVec 32).toNat : Int) from rfl]
  iapply (step_wait m true K c 0 rfl (wpE_semWait_eq 𝒱₀ (c : Thread nD τ) none Set.univ) (owes₁ c) W) $$ [Hc0 HO Ha0]
  · isplitr; · iexact HR
    isplitl [Hc0]; · iexact Hc0
    isplitl [HO]; · iexact HO
    isplitr; · iapply (mayWait_bar (F := F) c); iexact Hlev
    iexact Ha0
  iintro ⟨HO, Hv, Hz0⟩
  dsimp only [carries]
  ihave Hvs := (v_halves (peer c) (stale m (peer c))).1 $$ Hv
  icases Hvs with ⟨HvT, HvB⟩
  ihave Hxs := (x_halves c (given m c)).1 $$ Hx
  icases Hxs with ⟨HxT, HxB⟩
  -- the two transfers
  iapply (step_send_top m K c _ (Fin.ext hd2) (stale m (peer c)) _) $$ [HxT HvT HO Ht1 Ht3]
  · isplitr; · iexact HR
    isplitl [HxT]; · iexact HxT
    isplitl [HvT]; · iexact HvT
    isplitl [HO]; · iexact HO
    isplitl [Ht1]; · iexact Ht1
    iexact Ht3
  iintro ⟨Hc1, HO⟩
  iapply (step_send_bot m K c _ (Fin.ext hd3) (stale m (peer c)) _) $$ [HxB HvB HO Ht2 Ht4]
  · isplitr; · iexact HR
    isplitl [HxB]; · iexact HxB
    isplitl [HvB]; · iexact HvB
    isplitl [HO]; · iexact HO
    isplitl [Ht2]; · iexact Ht2
    iexact Ht4
  iintro ⟨Hc2, HO⟩
  -- the four waits: the halves of the block have left, the halves of the result have arrived
  iapply (step_wait_dma m true K c 1 rfl sndTopS.sem rfl vTop xTop rfl 0 _) $$ [Hc1 HO Ha1]
  · isplitr; · iexact HR
    isplitl [Hc1]; · iexact Hc1
    isplitl [HO]; · iexact HO
    isplitr; · rw [MayWait_zero]; iempintro
    iexact Ha1
  iintro ⟨HO, HxT, Hz1⟩
  iapply (step_wait_dma m true K c 3 rfl rcvTopS.sem rfl xTop vTop rfl 0 _) $$ [Hc3 HO Ha3]
  · isplitr; · iexact HR
    isplitl [Hc3]; · iexact Hc3
    isplitl [HO]; · iexact HO
    isplitr; · rw [MayWait_zero]; iempintro
    iexact Ha3
  iintro ⟨HO, HvT, Hz3⟩
  iapply (step_wait_dma m true K c 2 rfl sndBotS.sem rfl vBot xBot rfl 0 _) $$ [Hc2 HO Ha2]
  · isplitr; · iexact HR
    isplitl [Hc2]; · iexact Hc2
    isplitl [HO]; · iexact HO
    isplitr; · rw [MayWait_zero]; iempintro
    iexact Ha2
  iintro ⟨HO, HxB, Hz2⟩
  iapply (step_wait_dma m true K c 4 rfl rcvBotS.sem rfl xBot vBot rfl 0 _) $$ [Hc4 HO Ha4]
  · isplitr; · iexact HR
    isplitl [Hc4]; · iexact Hc4
    isplitl [HO]; · iexact HO
    isplitr; · rw [MayWait_zero]; iempintro
    iexact Ha4
  iintro ⟨HO, HvB, Hz4⟩
  dsimp only [carries]
  -- the copy's semaphore is not used
  imod (close_unused m true K c 5 rfl) $$ [Ha5] with Hz5
  · isplitr; · iexact HR
    iexact Ha5
  rw [wp_ret]; imodintro
  iapply Hk
  unfold bodyPost done zeros Dat.owesAt Pipeline.owesWithin
  rw [show (dats m ρ true 0 c).owed t₀.succ = 0 from rfl]
  isplitl [HxT HxB HvT HvB Hz0 Hz1 Hz2 Hz3 Hz4 Hz5]
  · isplitl [HxT HxB]
    · iapply (x_halves c (given m c)).2; isplitl [HxT] <;> iassumption
    isplitl [HvT HvB]
    · iapply (v_halves c (result m true c)).2; isplitl [HvT] <;> iassumption
    isplitl [Hz0]; · iexact Hz0
    isplitl [Hz1]; · iexact Hz1
    isplitl [Hz2]; · iexact Hz2
    isplitl [Hz3]; · iexact Hz3
    isplitl [Hz4] <;> iassumption
  isplitl [HO]
  · iexists _
    isplitr
    rotate_left
    · iexact HO
    · ipureintro; exact fun _ _ => Or.inl trivial
  iexists _; isplitr; · (ipureintro; rfl)
  iexact Ht

set_option maxHeartbeats 4000000 in
/-- The body under the keeping table: the copy and the wait for it. -/
theorem body_keep (K : Dev nD × Fin 6 → ℕ) (h : Tables m false) (c : Dev nD) (Kt : PUnit → sProp 𝕄) :
    iprop(bodyPre m ρ false K c ∗ (bodyPost m ρ false c -∗ Kt ⟨⟩))
      ⊢ wp frame (wpE (defs₀ (F := F)) 𝒱₀ c none) Set.univ bodyProg Kt := by
  have hchk : k0_chk1 c (wordOf c (tableStaged m ρ c)) := by rw [h.word ρ c]; exact entry_chk false c
  have heq : sameCond c (wordOf c (tableStaged m ρ c)) = 1#1 := by rw [h.word ρ c]; exact entry_same' c
  have hno : ¬ k0_cond2 c (wordOf c (tableStaged m ρ c)) = 1#1 := by rw [h.word ρ c]; exact entry_other' c
  unfold bodyProg
  simp only [cc0_body_eq_skeleton]; unfold cc0_body_skel
  simp only [smemLoad, smemLoadElt, Prog.lift, Prog.bind_op, Prog.bind_ret, Prog.pure_eq_ret, Prog.bind_assoc, wp_deviceId]
  unfold bodyPre ghost dues positions payToks
  rw [if_neg Bool.false_ne_true]
  iintro ⟨⟨⟨⟨#HR, ⟨Ha0, Ha1, Ha2, Ha3, Ha4, Ha5⟩, -, -, -, -, -, Ht5⟩, -, -, Hx, Hv⟩, Ho, ⟨%d0, %g0, %hg0, Ht⟩⟩, Hk⟩
  have ht : g0 = tableStaged m ρ c := by rw [hg0]; unfold Dat.before; rw [if_pos (fetches t₀)]; rfl
  subst ht
  unfold Dat.owesAt Pipeline.owesWithin
  icases Ho with ⟨%W, %hW, HO⟩
  rw [show (dats m ρ false 0 c).owed t₀.castSucc = 0 from rfl]
  -- the table's word, and the check of the devices computed from it
  iapply (wp_load_rect 𝒱₀ (c : Thread nD τ) none Set.univ (m := tM) (r := wordRect c) (Finset.subset_univ _)) $$ Ht; iintro Ht
  simp only [wp_assume_of _ _ _ _ (d := k0_chk1.dec _ _) hchk]
  -- it is the device's own `y`
  rw [if_pos heq, dif_neg hno]
  -- the copy and its wait
  iapply (step_copy m K c) $$ [Hx Hv Ht5]
  · isplitr; · iexact HR
    isplitl [Hx]; · iexact Hx
    isplitl [Hv] <;> iassumption
  iintro Hc5
  iapply (step_wait_dma m false K c 5 rfl cpyS.sem rfl xM vM rfl 0 W) $$ [Hc5 HO Ha5]
  · isplitr; · iexact HR
    isplitl [Hc5]; · iexact Hc5
    isplitl [HO]; · iexact HO
    isplitr; · rw [MayWait_zero]; iempintro
    iexact Ha5
  iintro ⟨HO, Hp, Hz5⟩
  dsimp only [carries]
  icases Hp with ⟨Hv, Hx⟩
  -- the other five semaphores are not used
  imod (close_unused m false K c 0 rfl) $$ [Ha0] with Hz0
  · isplitr; · iexact HR
    iexact Ha0
  imod (close_unused m false K c 1 rfl) $$ [Ha1] with Hz1
  · isplitr; · iexact HR
    iexact Ha1
  imod (close_unused m false K c 2 rfl) $$ [Ha2] with Hz2
  · isplitr; · iexact HR
    iexact Ha2
  imod (close_unused m false K c 3 rfl) $$ [Ha3] with Hz3
  · isplitr; · iexact HR
    iexact Ha3
  imod (close_unused m false K c 4 rfl) $$ [Ha4] with Hz4
  · isplitr; · iexact HR
    iexact Ha4
  rw [wp_ret]; imodintro
  iapply Hk
  unfold bodyPost done zeros Dat.owesAt Pipeline.owesWithin
  rw [show (dats m ρ false 0 c).owed t₀.succ = 0 from rfl]
  isplitl [Hx Hv Hz0 Hz1 Hz2 Hz3 Hz4 Hz5]
  · isplitl [Hx]; · iexact Hx
    isplitl [Hv]; · iexact Hv
    isplitl [Hz0]; · iexact Hz0
    isplitl [Hz1]; · iexact Hz1
    isplitl [Hz2]; · iexact Hz2
    isplitl [Hz3]; · iexact Hz3
    isplitl [Hz4] <;> iassumption
  isplitl [HO]
  · iexists _
    isplitr
    rotate_left
    · iexact HO
    · ipureintro; exact fun _ _ => Or.inl trivial
  iexists _; isplitr; · (ipureintro; rfl)
  iexact Ht

/-- The body, whichever of the two tables. -/
theorem body_sound (K : Dev nD × Fin 6 → ℕ) (h : Tables m sw) (c : Dev nD) (Kt : PUnit → sProp 𝕄) :
    iprop(bodyPre m ρ sw K c ∗ (bodyPost m ρ sw c -∗ Kt ⟨⟩))
      ⊢ wp frame (wpE (defs₀ (F := F)) 𝒱₀ c none) Set.univ bodyProg Kt := by
  cases sw
  · exact body_keep m ρ K h c Kt
  · exact body_swap m ρ K h c Kt

end Cert.KernelIdeal.Swap

end
-- ==== Proof.IdealRun.lean ====
module

public import Idealize.ShloMosaic.Lib.Pipeline.CollectiveSegs
public import proofs.«01_k».proof.Proof.IdealBody

@[expose] public section

/-!
# The whole run

The sixteen devices' bodies put together: how the rights and the credits of the exchange are dealt at launch, and the
theorem `run`, that the program terminates on every schedule with each device's result buffer holding the block of
the device it comes from, its arguments unchanged and every semaphore at zero.
-/

noncomputable section

namespace Cert.KernelIdeal.Swap

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (sw : Bool)

/-! ## The body, as the pipeline asks for it -/

set_option maxRecDepth 4000 in
/-- The pipeline's body obligation on device `c`, at its one step. -/
theorem body_obligation (h : Tables m sw) (c : Dev nD) :
    BodyObligation (dats (F := F) m ρ sw 0 c) (defs₀ (F := F)) 𝒱₀ () Set.univ := fun t => by
  rw [step_eq t, bigSep_windows, bigSep_windows]
  simp only [owns_staged]
  show iprop(start m sw c ∗ (dats m ρ sw 0 c).owesAt () t₀.castSucc
      ∗ (∃ d, staged c cc0_stg0_0 ((dats m ρ sw 0 c).before (0 : Fin 1) t₀ d)))
    ⊢ wp frame (wpE (defs₀ (F := F)) 𝒱₀ c none) Set.univ bodyProg (fun _ => bodyPost m ρ sw c)
  unfold start
  iintro ⟨⟨⟨%K, Hg⟩, Hrest⟩, Ho, Ht⟩
  iapply (body_sound m ρ sw K h c fun _ => bodyPost m ρ sw c)
  unfold bodyPre
  isplitr []
  · isplitl [Hg Hrest]
    · isplitl [Hg] <;> iassumption
    isplitl [Ho] <;> iassumption
  · iintro H; iexact H

/-! ## Dealing the rights -/

/-- The five semaphores the kernel declares are what its launch allocates. -/
theorem ownSemFacts : Pipeline.OwnSemFacts cfg0.spec osem := by decide

/-- The window's array is held in full. -/
theorem share_full (c : Dev nD) (w : Fin cfg0.W) : (dats m ρ sw 0 c).share w = fullShare := by
  unfold Dat.share; split <;> rfl

/-- Cells of different devices or numbers are different. -/
theorem cells_inj : Function.Injective (fun ck : Dev nD × Fin 6 => cell ck.1 ck.2) := by
  rintro ⟨c, k⟩ ⟨c', k'⟩ h
  obtain ⟨h1, h2⟩ := cell_eq_iff.mp h
  exact Prod.ext h1 h2

/-- All the cells of the exchange, and the one payment into each. -/
def allCells : Finset (GSem nD τ sig) := Finset.univ.map ⟨fun ck : Dev nD × Fin 6 => cell ck.1 ck.2, cells_inj⟩
/-- The one payment into each. -/
def allToks : Finset (GSem nD τ sig × ℕ × Unit) :=
  Finset.univ.map ⟨fun ck : Dev nD × Fin 6 => (cell ck.1 ck.2, 0, ()), fun _ _ h => cells_inj (congrArg Prod.fst h)⟩

/-- The ghost state at launch. -/
def u₀ : UU :=
  (initOf (Pipeline.cells cfgs cellOf_inj) (Pipeline.launchToks cfgs cellOf_inj), initOf allCells allToks)

/-- The payments into device `c`'s own cells. -/
def ownToks (c : Dev nD) : sProp 𝕄 := bigSep Finset.univ fun k : Fin 6 => tok c k

/-- What the launch deals device `c`: its cells' states, its positions in them, and the payments into them. -/
def dealt (c : Dev nD) : sProp 𝕄 :=
  iprop((bigSep Finset.univ fun k : Fin 6 => roundState ER (plan m sw) (cell c k) 0)
    ∗ (bigSep Finset.univ fun k : Fin 6 => iprop(fresh c k ∗ reached ER (cell c k) 0)) ∗ ownToks c)

/-- What a device has of the exchange once the payments have gone to those who make them. -/
def shared (c : Dev nD) : sProp 𝕄 := iprop(∃ K, ghost m sw K c)

omit [FloatOps F] in
/-- A conjunction over five, written out, -/
theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ
omit [FloatOps F] in
/-- and over six. -/
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

omit [FloatOps F] in
/-- The launch's ghost state is every device's deal. -/
theorem deal : BI.own (ER (initOf allCells allToks)) ⊢ (|==> bigSep Finset.univ (dealt m sw) : sProp 𝕄) := by
  have hX (Φ : GSem nD τ sig → sProp 𝕄) :
      bigSep allCells Φ = bigSep Finset.univ fun c : Dev nD => bigSep Finset.univ fun k : Fin 6 => Φ (cell c k) := by
    unfold allCells; rw [bigSep_map, bigSep_univ_prod]; rfl
  have hT : bigSep allToks (fun x => (dutyTok ER x.1 x.2.1 x.2.2 : sProp 𝕄)) = bigSep Finset.univ fun c : Dev nD => ownToks c := by
    unfold allToks ownToks; rw [bigSep_map, bigSep_univ_prod]; rfl
  iintro HX
  imod (Rounds.fund ER (plan m sw) allCells allToks) $$ HX with ⟨Hst, Hr, Hat, Htok⟩
  imodintro
  ihave Hst' := (Entails.of_eq (hX fun g => roundState ER (plan m sw) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt; simp only [bigSep_sep']
  isplitl [Hst']; · iexact Hst'
  isplitl [Hat' Hr']
  · isplitl [Hat'] <;> iassumption
  iexact Htok'

omit [FloatOps F] in
/-- The five semaphores the kernel declares are the kernel's own, -/
theorem ownSems_eq (c : Dev nD) :
    (Pipeline.ownSems0 (Ix := Unit) (Name := ℕ) (U := UU) (Lvl := ℕ) (Val := Elt F) (τ := τ) osem c : sProp 𝕄)
      = iprop(semVal (cell c 1) 0 ∗ semVal (cell c 2) 0 ∗ semVal (cell c 3) 0 ∗ semVal (cell c 4) 0 ∗ semVal (cell c 5) 0) := by
  rw [Pipeline.ownSems0_eq_of_list c osem [0, 1, 2, 3, 4] (by decide) (by decide)]; rfl
omit [FloatOps F] in
/-- and the barrier semaphore outlives it. -/
theorem barSem_eq (c : Dev nD) : (unscopedSems0 c : sProp 𝕄) = semVal (cell c 0) 0 := by
  unfold unscopedSems0; rw [bigSep_eq_bigSepL_of_eq [SemLoc.reg barS] (by decide) (by decide)]; rfl

omit [FloatOps F] in
/-- Together they are the six counters of the exchange. -/
theorem counters (c : Dev nD) :
    iprop(Pipeline.ownSems0 (Ix := Unit) (Name := ℕ) (U := UU) (Lvl := ℕ) (Val := Elt F) (τ := τ) osem c ∗ unscopedSems0 c)
      ⊢ (bigSep Finset.univ fun k : Fin 6 => semVal (cell c k) 0 : sProp 𝕄) := by
  rw [ownSems_eq, barSem_eq, bigSep_fin6]
  iintro ⟨Ho, Hb⟩
  isplitl [Hb]; · iexact Hb
  iexact Ho

omit [FloatOps F] in
/-- A device's counters and the cells' states become the cells' invariants. -/
theorem open_cells (c : Dev nD) :
    iprop(Pipeline.ownSems0 (Ix := Unit) (Name := ℕ) (U := UU) (Lvl := ℕ) (Val := Elt F) (τ := τ) osem c ∗ unscopedSems0 c ∗ dealt m sw c)
      ⊢ |={Set.univ}=> iprop((bigSep Finset.univ fun k => iprop(∃ κ : ℕ, cellInv ER (plan m sw) κ (cell c k)))
          ∗ (bigSep Finset.univ fun k => iprop(fresh c k ∗ reached ER (cell c k) 0)) ∗ ownToks c) := by
  unfold dealt
  iintro ⟨Hos, Hus, Hst, Hat, Htok⟩
  ihave Hv := (counters (F := F) c) $$ [Hos Hus]
  · isplitl [Hos] <;> iassumption
  imod (show iprop((bigSep Finset.univ fun k : Fin 6 => semVal (cell c k) 0) ∗ bigSep Finset.univ fun k : Fin 6 => roundState ER (plan m sw) (cell c k) 0)
      ⊢ (|={Set.univ}=> bigSep Finset.univ fun k => iprop(∃ κ : ℕ, cellInv ER (plan m sw) κ (cell c k)) : sProp 𝕄) from by
        rw [← bigSep_sep']
        exact (bigSep_mono fun k _ => (Rounds.body_intro ER (plan m sw) (cell c k)).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- The record, the positions and the payments make a device's share. -/
theorem ghost_intro (K : Dev nD × Fin 6 → ℕ) (c : Dev nD) :
    iprop(records m sw K ∗ ((bigSep Finset.univ fun k : Fin 6 => fresh c k) ∗ payToks c)) ⊢ shared m sw c := by
  rw [bigSep_fin6]
  unfold shared ghost positions
  iintro ⟨#HR, Ha, Ht⟩
  iexists K
  isplitr; · iexact HR
  isplitl [Ha] <;> iassumption

omit [FloatOps F] in
/-- The payments into the barrier and the receive semaphores change hands across `y`; the others stay. -/
theorem toks_across : (bigSep Finset.univ fun c : Dev nD => (ownToks c : sProp 𝕄)) ⊢ bigSep Finset.univ fun c : Dev nD => payToks c := by
  unfold ownToks payToks
  rw [bigSep_congr (s := Finset.univ) (fun (c : Dev nD) _ => bigSep_fin6 (F := F) fun k => tok c k)]
  simp only [bigSep_sep']
  rw [bigSep_univ_equiv across (fun c : Dev nD => (tok c 0 : sProp 𝕄)), bigSep_univ_equiv across (fun c : Dev nD => (tok c 3 : sProp 𝕄)),
    bigSep_univ_equiv across (fun c : Dev nD => (tok c 4 : sProp 𝕄))]
  exact Entails.refl _

omit [FloatOps F] in
/-- What may be read any number of times may be read once for each. -/
theorem bigSep_knowing {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
/-- All devices' invariants, positions and payments, regrouped, are all devices' shares. -/
theorem regroup :
    (bigSep Finset.univ fun c : Dev nD => iprop((bigSep Finset.univ fun k => iprop(∃ κ : ℕ, cellInv ER (plan m sw) κ (cell c k)))
          ∗ (bigSep Finset.univ fun k => iprop(fresh c k ∗ reached ER (cell c k) 0)) ∗ ownToks c) : sProp 𝕄)
      ⊢ bigSep Finset.univ (shared m sw) := by
  rw [bigSep_sep', bigSep_sep', ← bigSep_univ_prod (fun ck : Dev nD × Fin 6 => iprop(∃ κ : ℕ, cellInv ER (plan m sw) κ (cell ck.1 ck.2))),
    bigSep_congr (s := Finset.univ) (fun (c : Dev nD) _ => bigSep_sep' Finset.univ (fun k : Fin 6 => (fresh c k : sProp 𝕄)) (fun k => reached ER (cell c k) 0)),
    bigSep_sep', ← bigSep_univ_prod (fun ck : Dev nD × Fin 6 => (reached ER (cell ck.1 ck.2) 0 : sProp 𝕄))]
  iintro ⟨HI, ⟨Hat, #HR⟩, Htok⟩
  ihave HK := (BI.bigSep_exists_pi Finset.univ (fun (ck : Dev nD × Fin 6) (κ : ℕ) => (cellInv ER (plan m sw) κ (cell ck.1 ck.2) : sProp 𝕄))) $$ HI
  icases HK with ⟨%K, #HI⟩
  ihave Htk := (toks_across (F := F)) $$ Htok
  iapply (bigSep_knowing (R := records m sw K) fun c _ => ghost_intro m sw K c)
  isplitr
  · unfold records; isplitl; · iexact HI
    iexact HR
  · iapply (Entails.of_eq (bigSep_sep' Finset.univ (fun c : Dev nD => bigSep Finset.univ fun k : Fin 6 => (fresh c k : sProp 𝕄)) payToks).symm)
    isplitl [Hat]; · iexact Hat
    iexact Htk

omit [FloatOps F] in
/-- The step made once for all devices: their semaphores and their deals become their shares of the exchange. -/
theorem share_out :
    (bigSep Finset.univ fun c => iprop(Pipeline.ownSems0 (Ix := Unit) (Name := ℕ) (U := UU) (Lvl := ℕ) (Val := Elt F) (τ := τ) osem c ∗ unscopedSems0 c ∗ dealt m sw c) : sProp 𝕄)
      ⊢ |={Set.univ}=> bigSep Finset.univ (shared m sw) :=
  ((bigSep_mono fun c _ => open_cells m sw c).trans (bigSep_fupd _ _)).trans (BI.fupd_mono (regroup m sw))

/-! ## Dealing the credits -/

/-- A tally at a cell of the device across `y` counts that cell alone. -/
theorem tally_cell (d c : Dev nD) (j k : Fin 6) (n : ℕ) :
    (tallyAt (cell (peer d) j) () n : CellTallies nD τ sig Unit) (cell c k) () = if d = peer c ∧ k = j then n else 0 := by
  rw [tallyAt_apply]
  refine if_congr ⟨fun ⟨h, _⟩ => ?_, fun ⟨h, h'⟩ => ⟨?_, rfl⟩⟩ rfl rfl
  · obtain ⟨h1, h2⟩ := cell_eq_iff.mp h
    exact ⟨by rw [h1, peer_peer], h2⟩
  · rw [h, h', peer_peer]

/-- When blocks are swapped, a barrier or receive cell is owed its whole amount by the device across `y`. -/
theorem owed_cell (d c : Dev nD) (k : Fin 6) (hk : k = 0 ∨ k = 3 ∨ k = 4) :
    O₀ true d (cell c k) () = if d = peer c then amt k else 0 := by
  unfold O₀ owes₁ owes₂
  rw [if_pos rfl, Pi.add_apply, Finsupp.add_apply, Pi.add_apply, Finsupp.add_apply, tally_cell, tally_cell, tally_cell]
  by_cases h : d = peer c
  · rw [if_pos h]
    rcases hk with rfl | rfl | rfl
    · rw [if_neg (fun h => absurd h.2 (by decide)), if_neg (fun h => absurd h.2 (by decide)), if_pos ⟨h, rfl⟩, Nat.zero_add]; rfl
    · rw [if_neg (fun h => absurd h.2 (by decide)), if_pos ⟨h, rfl⟩, if_neg (fun h => absurd h.2 (by decide)), Nat.zero_add]; rfl
    · rw [if_pos ⟨h, rfl⟩, if_neg (fun h => absurd h.2 (by decide)), if_neg (fun h => absurd h.2 (by decide))]; rfl
  · rw [if_neg (fun h' => h h'.1), if_neg (fun h' => h h'.1), if_neg (fun h' => h h'.1), if_neg h]

omit [FloatOps F] in
/-- So the launch holds, for such a cell, a credit of its amount. -/
theorem credit_cell (c : Dev nD) (k : Fin 6) (hk : k = 0 ∨ k = 3 ∨ k = 4) :
    tallyOn (cell c k) (launchCredit (Pipeline.owing (O₀ true)) 0 (cell c k)) = (tallyAt (cell c k) () (amt k) : CellTallies nD τ sig Unit) := by
  unfold tallyAt; refine congrArg _ (Finsupp.ext fun u => ?_); cases u
  rw [Pipeline.launchCredit_owing, Finsupp.single_eq_same, Finset.sum_congr rfl fun d _ => owed_cell d c k hk,
    Finset.sum_ite_eq' Finset.univ (peer c) fun _ => amt k, if_pos (Finset.mem_univ _)]

omit [FloatOps F] in
/-- The launch's credit holds what device `c`'s cells are owed. -/
theorem credits (c : Dev nD) : (Pipeline.launchCred (O₀ sw) c : sProp 𝕄) ⊢ dues sw c := by
  unfold dues
  cases sw
  · rw [if_neg Bool.false_ne_true]; iintro -; iempintro
  · rw [if_pos rfl]
    unfold Pipeline.launchCred
    rw [bigSep_univ_at _ (csem 0), BI.bigSep_erase (i := csem 3) (Finset.mem_erase.mpr ⟨by decide, Finset.mem_univ _⟩), ← credit_cell c 0 (Or.inl rfl), ← credit_cell c 3 (Or.inr (Or.inl rfl)),
      ← credit_cell c 4 (Or.inr (Or.inr rfl))]
    refine sep_mono_right (sep_mono_right ?_)
    exact bigSep_elim (Finset.mem_erase.mpr ⟨by decide, Finset.mem_erase.mpr ⟨by decide, Finset.mem_univ _⟩⟩)

/-! ## In and out of the kernel -/

omit [FloatOps F] in
/-- What the launch hands a device makes up what the kernel starts with; -/
theorem enter (c : Dev nD) :
    iprop(Pipeline.unscopedRestP Pipeline.Prefetch.none cfg0.spec c (fun b => m ((c : Thread nD τ).loc b)) ∗ levAts L lv
        ∗ Pipeline.launchCred (O₀ sw) c ∗ prngReg c (ρ c) ∗ shared m sw c)
      ⊢ |={Set.univ}=> iprop(start m sw c ∗ emp) := by
  rw [Pipeline.unscopedRestP_none, unscopedRest0_eq]
  iintro ⟨⟨Hx, Hv⟩, Hlev, Hcr, -, HG⟩
  ihave Hc := (credits (F := F) sw c) $$ Hcr
  imodintro
  unfold start shared
  isplitl
  · isplitl [HG]; · iexact HG
    isplitl [Hc]; · iexact Hc
    isplitl [Hlev]; · iexact Hlev
    isplitl [Hx]; · iexact Hx
    iexact Hv
  · iempintro

/-- that is the state before the pipeline's first step, -/
theorem first (c : Dev nD) :
    iprop(start m sw c ∗ Pipeline.prefHeld Pipeline.Prefetch.none c (fun _ => fullShare.right) (fun k => k.elim0) ∗ Pipeline.scopedRest cfg0.spec c)
      ⊢ (dats m ρ sw 0 c).Φ 0 := by
  rw [show (dats m ρ sw 0 c).Φ 0 = start m sw c from rfl]
  iintro ⟨Hs, -, -⟩; iexact Hs

/-- What is read off device `c` when the run is over. -/
def kept (c : Dev nD) : sProp 𝕄 := iprop(unscopedSems0 c ∗ xPts c (given m c) ∗ vPts c (result m sw c))

/-- and the state after its last gives back the semaphores and what is read at the end. -/
theorem last (c : Dev nD) :
    (dats m ρ sw 0 c).Φ (Fin.last cfg0.N) ⊢ iprop(kept m sw c ∗ Pipeline.ownSems0 osem c ∗ Pipeline.scopedRest cfg0.spec c) := by
  rw [show (dats m ρ sw 0 c).Φ (Fin.last cfg0.N) = done m sw c from rfl, scopedRest0_eq]
  unfold done zeros kept
  rw [ownSems_eq, barSem_eq]
  iintro ⟨Hx, Hv, Hz0, Hz⟩
  isplitl [Hx Hv Hz0]
  · isplitl [Hz0]; · iexact Hz0
    isplitl [Hx] <;> iassumption
  isplitl [Hz]; · iexact Hz
  iempintro

/-- The pipeline may wait for its own transfers at every step. -/
theorem waits (c : Dev nD) : (levAts L lv : sProp 𝕄) ⊢ Pipeline.cellsWaits cfgs (dats m ρ sw) () 0 c :=
  Pipeline.cellsWaits_intro cfgs (dats m ρ sw) () 0 c fun w s t =>
    mayWait_stage sw c _ (by fin_cases w <;> fin_cases s <;> decide) _ (by
      rcases t with ⟨_ | _, ht⟩
      · exact Or.inl rfl
      · exact Or.inr rfl)

/-- What the final memory `s` of device `c` is: its barrier semaphore at zero, its block unchanged, its result there. -/
def Final (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0)
    ∧ s.mem ((c : Thread nD τ).loc main_v1) = result m sw c

omit [FloatOps F] in
/-- It is read off what the device still holds. -/
theorem final_read (c : Dev nD) (s' : Phys nD τ sig (Elt F)) :
    iprop(kept m sw c ∗ emp ∗ SI s') ⊢ (|={Set.univ}=> iprop(⌜Final m sw c s'.mem⌝ ∗ SI s') : sProp 𝕄) := by
  unfold kept
  iintro ⟨⟨Hu, Hx, Hv⟩, -, HSI⟩
  icombine HSI Hx gives %hx
  icombine HSI Hv gives %hv
  imod (Pipeline.unscopedSems0_read (X := unscopedSems0 c) (c := c) fupd_intro s') $$ [Hu HSI] with ⟨%hu, HSI⟩
  · isplitl [Hu]; · iexact Hu
    iexact HSI
  imodintro
  isplitr
  · ipureintro
    exact ⟨hu, Buf.eq_of_forall_mem_univ hx, Buf.eq_of_forall_mem_univ hv⟩
  iexact HSI

set_option maxRecDepth 8000 in
/-- THE RUN. For any float values, from any memory with every counter at zero whose tables are the swapping one (`sw`) or
    the keeping one: every weakly fair execution terminates, and at its end each device's block and table are what they
    were, its result is the block of the device it comes from, and every counter is at zero. -/
theorem run (h : Tables m sw) :
    θ_run defs (onTc (τ := τ) (main (F := F))) (s₀ m ρ) (fun r =>
      (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v1) = result m sw c)
      ∧ r.2.sem = fun _ => 0) :=
  Pipeline.θ_run_region_owing_glob_pf (fun p => (cfgs p).toPCfg) (fun p => (cfgs p).toPCfg_adm) (dats m ρ sw) () cellOf_inj (0 : Fin 1)
    winFacts0.to₀ ownSemFacts (Pipeline.PreFacts.none _) EP defs₀ 𝒱₀ m ρ main
    (hmain := fun _ => rfl)
    (hbody := body_obligation m ρ sw h) (hne := fun w => by fin_cases w <;> exact Nat.succ_pos _) (harr := arr_whole0) (hstage := stage_whole0)
    (hshare := share_full m ρ sw) (hdistinct := winFacts0.arr_inj)
    (O₀ := O₀ sw) (howed₀ := fun _ => rfl) (howedN := fun _ => rfl)
    (L := L) (lv := lv) (hL := L_of_ne) (hwaits := waits m ρ sw)
    (G := dealt m sw) (G' := shared m sw) (u₀ := u₀)
    (hu₀ := by
      unfold u₀
      iintro Hu
      ihave H := (ownU_pair _ _) $$ Hu
      icases H with ⟨HP, HX⟩
      imod (deal m sw) $$ HX with HG
      imodintro
      isplitl [HP] <;> iassumption)
    (hglob := share_out m sw)
    (hA := fun _ _ => rfl) (hpf := fun _ k => k.elim0)
    (X := start m sw) (Y := kept m sw) (Z := fun _ => iprop(emp))
    (hX := enter m ρ sw) (hin := first m ρ sw) (hout := last m ρ sw)
    (QY := Final m sw) (hY := final_read m sw)
    (hQ := fun _ h hs => ⟨fun c => ⟨(h c).2.2.2.1, ((h c).1 (0 : Fin 1)).trans ((dats (F := F) m ρ sw 0 c).arrAt_in (0 : Fin 1) rfl _), (h c).2.2.2.2⟩,
      sem_eq_zero hs fun c => (h c).2.2.1⟩)

end Cert.KernelIdeal.Swap

end
-- ==== Proof.IdealTables.lean ====
module

public import proofs.«01_k».proof.Proof.IdealCells
public import proofs.«01_k».proof.Proof.Words

@[expose] public section

/-!
# The tables a precondition admits

Where a precondition holds on every device, every device's table is the swapping one, or the keeping one.
-/

noncomputable section

namespace Cert.KernelIdeal.Swap

open Cert.KernelIdeal Cert.KernelIdeal.Gen Idealize.ShloMosaic Idealize.ShloMosaic.TcCoe

variable {F : FTy → Type} [FloatOps F] (m : (ℓ : Loc nD τ sig) → Buf (Elt F) ℓ)

omit [FloatOps F] in
/-- Tables with the two entries of `sw` on every device are the tables `sw`. -/
theorem tables_of_entries (sw : Bool)
    (h : ∀ c : Dev nD, tableOf m c (at2 0 (by decide)) = entry sw 0 ∧ tableOf m c (at2 1 (by decide)) = entry sw 1) : Tables m sw := by
  intro c y hy
  rcases y with _ | _ | y
  · exact (h c).1
  · exact (h c).2
  · omega

/-- Tables that swap, -/
theorem tables_swap [Cert.Pre_pi_swaps_Kernel.Facts]
    (h : ∀ c : Dev nD, Cert.Pre_pi_swaps_Kernel.fn (F := F) (m ((c.tc : Thread nD τ).loc main_arg0)) (m ((c.tc : Thread nD τ).loc main_arg1)) = fun _ => 1#1) :
    Tables m true := tables_of_entries m true fun c => Cert.Words.swaps_words (h c)

/-- and tables that keep. -/
theorem tables_keep [Cert.Pre_pi_keeps_Kernel.Facts]
    (h : ∀ c : Dev nD, Cert.Pre_pi_keeps_Kernel.fn (F := F) (m ((c.tc : Thread nD τ).loc main_arg0)) (m ((c.tc : Thread nD τ).loc main_arg1)) = fun _ => 1#1) :
    Tables m false := tables_of_entries m false fun c => Cert.Words.keeps_words (h c)

end Cert.KernelIdeal.Swap

end
-- ==== Proof.Reference.lean ====
module

public import proofs.«01_k».proof.Proof.Gen.ReferenceIdeal.Run
public import Idealize.ShloMosaic.Lib.Layout

@[expose] public section

/-!
# The reference's result, read at an index

The reference sorts its table `pi`, carrying the positions, and takes the slabs of `x` in that order. For the table
`[1, 0]` the order is the other position, for `[0, 1]` the position itself; so slab `y` of the result is slab `1 - y`
of `x`, or slab `y`.
-/

noncomputable section

namespace Cert.ReferenceIdeal.Slabs

open Cert.ReferenceIdeal Cert.ReferenceIdeal.Gen Idealize.ShloMosaic

variable {F : FTy → Type} [FloatOps F]

/-- Where slab `y` of the result comes from: the other slab for the swapping table, itself for the keeping one. -/
def order (sw : Bool) (y : ℕ) : ℕ := if sw then 1 - y else y

/-- It is one of the two slabs. -/
theorem order_lt (sw : Bool) (y : ℕ) (hy : y < 2) : order sw y < 2 := by
  unfold order; split <;> omega

/-- The swapping or the keeping table. -/
def table (sw : Bool) : IVec S2 32 := fun i => BitVec.ofNat 32 (order sw (i 0).val)

/-- The positions the reference takes the slabs at, from its table `t`: the sorted positions, those below zero moved up by two. -/
def positions (t : IVec S2 32) : IVec S2x1 32 :=
  broadcastInDim S2x1 ![0] bcast_S2_S2x1_0
    (select (cmpi .slt ((Host.sort2 S2 0 comparator_i32_i32_d0 t (iotaInDim S2 32 0)).2) (broadcastInDim S2 ![] bcast_S_S2 (constantI S_ 32 0#32)))
      (addi ((Host.sort2 S2 0 comparator_i32_i32_d0 t (iotaInDim S2 32 0)).2) (broadcastInDim S2 ![] bcast_S_S2 (constantI S_ 32 2#32)))
      ((Host.sort2 S2 0 comparator_i32_i32_d0 t (iotaInDim S2 32 0)).2))

/-- The reference's result, from its arguments. -/
def out (x : FVec F S2x4096x2048 .f32) (t : IVec S2 32) : FVec F S2x4096x2048 .f32 :=
  Host.gather gather_S2x4096x2048_S2x1_S2x4096x2048_12_0_n_n_0_1_140962048 x (positions t)

/-- Row `y` of the positions. -/
def row (y : Fin 2) : S2x1.Idx := fun a => match a with | ⟨0, _⟩ => y | ⟨1, _⟩ => ⟨0, Nat.one_pos⟩

/-- Sorting the swapping table or the keeping one gives the order itself. -/
theorem positions_table (sw : Bool) (y : Fin 2) : positions (table sw) (row y) = BitVec.ofNat 32 (order sw y.val) := by
  revert sw y; decide +kernel

/-- Index `i` moved to slab `s`. -/
def slab (s : Fin 2) (i : S2x4096x2048.Idx) : S2x4096x2048.Idx :=
  fun a => match a with | ⟨0, _⟩ => s | ⟨1, _⟩ => i 1 | ⟨2, _⟩ => i 2

/-- Taking slabs at the positions `p`: where row `i 0` of `p` holds `s`, the result at `i` is `x` there in slab `s`. -/
theorem take_slab (x : FVec F S2x4096x2048 .f32) (p : IVec S2x1 32) (i : S2x4096x2048.Idx) (s : Fin 2)
    (h : p (row (i 0)) = BitVec.ofNat 32 s.val) :
    Host.gather gather_S2x4096x2048_S2x1_S2x4096x2048_12_0_n_n_0_1_140962048 x p i = x (slab s i) := by
  refine congrArg x (funext fun a => Fin.ext ?_)
  match a with
  | ⟨0, _⟩ =>
    have hrow : gather_S2x4096x2048_S2x1_S2x4096x2048_12_0_n_n_0_1_140962048.siIdx i ⟨0, Nat.one_pos⟩ = row (i 0) :=
      funext fun b => Fin.ext (by match b with | ⟨0, _⟩ => rfl | ⟨1, _⟩ => rfl)
    have hread : min (p (gather_S2x4096x2048_S2x1_S2x4096x2048_12_0_n_n_0_1_140962048.siIdx i ⟨0, Nat.one_pos⟩)).toInt.toNat (2 - 1)
        + 0 + 0 = s.val := by
      rw [hrow, h]; clear h hrow; revert s; decide
    exact hread
  | ⟨1, _⟩ =>
    show 0 + 0 + (i 1).val = (i 1).val
    omega
  | ⟨2, _⟩ =>
    show 0 + 0 + (i 2).val = (i 2).val
    omega

/-- The reference's result under the swapping or the keeping table. -/
theorem out_table (sw : Bool) (x : FVec F S2x4096x2048 .f32) (i : S2x4096x2048.Idx) :
    out x (table sw) i = x (slab ⟨order sw (i 0).val, order_lt sw _ (i 0).isLt⟩ i) :=
  take_slab x _ i _ (positions_table sw (i 0))

end Cert.ReferenceIdeal.Slabs

end
-- ==== Proof.Blocks.lean ====
module

public import proofs.«01_k».proof.Proof.IdealCells
public import proofs.«01_k».proof.Proof.Reference
public import proofs.«01_k».proof.Proof.Words

@[expose] public section

/-!
# The devices' results are the blocks of the reference's result

Device `c` holds slab `y` of the whole array, `y` its position on the mesh's second axis. The reference's result has in slab
`y` the other slab of its argument for the swapping table, the same slab for the keeping one; and that slab is what the
device `c`'s result comes from holds.
-/

noncomputable section

namespace Cert.KernelIdeal.Swap

open Cert.KernelIdeal Cert.KernelIdeal.Gen Idealize.ShloMosaic Idealize.ShloMosaic.TcCoe
open Cert.ReferenceIdeal.Slabs (order table out out_table slab)

variable {F : FTy → Type} [FloatOps F] (m : (ℓ : Loc nD τ sig) → Buf (Elt F) ℓ)

/-- The block of the whole array `X` that device `c` holds. -/
abbrev blockOf (c : Dev nD) (X : FVec F ⟨3, ![2, 4096, 2048]⟩ .f32) : FVec F ⟨3, ![1, 4096, 2048]⟩ .f32 :=
  Layout.blockN ⟨3, ![1, 4096, 2048]⟩ ⟨3, ![2, 4096, 2048]⟩ (Layout.meshBlock [2, 2, 4] ![[1], [], []] c) X

/-- The slab of the device a result comes from is the one the reference puts there. -/
theorem origin_slab (sw : Bool) (c : Dev nD) :
    Layout.meshLin [2, 2, 4] (origin sw c).val [1] = order sw (Layout.meshLin [2, 2, 4] c.val [1]) := by
  revert sw c; decide +kernel

/-- The block held by the device that device `c`'s result comes from is device `c`'s block of the reference's result. -/
theorem block_out (sw : Bool) (c : Dev nD) (X : FVec F ⟨3, ![2, 4096, 2048]⟩ .f32) :
    blockOf (origin sw c) X = blockOf c (out X (table sw)) := by
  funext i
  show X _ = out X (table sw) _
  rw [out_table]
  refine congrArg X (funext fun a => Fin.ext ?_)
  have h0 : (i 0).val < 1 := (i 0).isLt
  match a with
  | ⟨0, _⟩ =>
    show Layout.meshLin [2, 2, 4] (origin sw c).val [1] * 1 + (i 0).val = order sw (Layout.meshLin [2, 2, 4] c.val [1] * 1 + (i 0).val)
    rw [show (i 0).val = 0 by omega, Nat.mul_one, Nat.mul_one, Nat.add_zero, Nat.add_zero, origin_slab]
  | ⟨1, _⟩ => rfl
  | ⟨2, _⟩ => rfl

omit [FloatOps F] in
/-- A table every device has, when the devices' tables are the tables `sw`, is the table `sw`. -/
theorem table_eq {sw : Bool} (h : Tables m sw) (c : Dev nD) : tableOf m c = table sw := by
  funext i
  exact (congrArg (tableOf m c) (Cert.Words.pos_self i).symm).trans (h c (i 0).val (i 0).isLt)

/-- So each device's result is its block of the reference's result on the whole array and the common table. -/
theorem result_block {sw : Bool} (h : Tables m sw) (X : FVec F ⟨3, ![2, 4096, 2048]⟩ .f32) (t : IVec ⟨1, ![2]⟩ 32)
    (hX : ∀ c : Dev nD, m ((c : Thread nD τ).loc main_arg0) = blockOf c X) (ht : ∀ c : Dev nD, tableOf m c = t) (c : Dev nD) :
    result m sw c = blockOf c (out X t) := by
  rw [← ht c, table_eq m h c, ← block_out]
  exact hX (origin sw c)

end Cert.KernelIdeal.Swap

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_pi_swaps_Kernel
public import proofs.«01_k».proof.Proof.Gen.Pre_pi_keeps_Kernel
public import proofs.«01_k».proof.Proof.Gen.Pre_pi_swaps_ReferenceIdeal
public import proofs.«01_k».proof.Proof.Gen.Pre_pi_keeps_ReferenceIdeal
public import proofs.«01_k».proof.Proof.FloatRun
public import proofs.«01_k».proof.Proof.FloatTables
public import proofs.«01_k».proof.Proof.IdealRun
public import proofs.«01_k».proof.Proof.IdealTables
public import proofs.«01_k».proof.Proof.Blocks
public import Idealize.ShloMosaic.Lib.Quiescent

@[expose] public section

/-!
# The claim

The exchange kernel on its sixteen devices, over machine floats and over exact values, and the reference on one device.
Each claim is the run of one of them, read at what the claim names.
-/

noncomputable section

namespace Cert.Proof

open Idealize.ShloMosaic Idealize.SL.Sem

/-- Over machine floats, under tables that swap: the run terminates, arguments unchanged, counters at zero. -/
theorem frame_swap : Cert.quiescent_Kernel := fun m ρ hpre =>
  (θ_run Cert.Kernel.defs _ _).mono (fun _ h => ⟨fun c => ⟨(h.1 c).1, (h.1 c).2.1⟩, h.2⟩)
    (Cert.Kernel.Swap.run m ρ true (Cert.Kernel.Swap.tables_swap m hpre))

/-- The same under tables that keep. -/
theorem frame_keep : Cert.quiescent_Kernel_pre_pi_keeps_Kernel := fun m ρ hpre =>
  (θ_run Cert.Kernel.defs _ _).mono (fun _ h => ⟨fun c => ⟨(h.1 c).1, (h.1 c).2.1⟩, h.2⟩)
    (Cert.Kernel.Swap.run m ρ false (Cert.Kernel.Swap.tables_keep m hpre))

/-- Over exact values, under tables that swap, -/
theorem ideal_frame_swap : Cert.quiescent_KernelIdeal := fun m ρ hpre =>
  (θ_run Cert.KernelIdeal.defs _ _).mono (fun _ h => ⟨fun c => ⟨(h.1 c).1, (h.1 c).2.1⟩, h.2⟩)
    (Cert.KernelIdeal.Swap.run m ρ true (Cert.KernelIdeal.Swap.tables_swap m hpre))

/-- and under tables that keep. -/
theorem ideal_frame_keep : Cert.quiescent_KernelIdeal_pre_pi_keeps_Kernel := fun m ρ hpre =>
  (θ_run Cert.KernelIdeal.defs _ _).mono (fun _ h => ⟨fun c => ⟨(h.1 c).1, (h.1 c).2.1⟩, h.2⟩)
    (Cert.KernelIdeal.Swap.run m ρ false (Cert.KernelIdeal.Swap.tables_keep m hpre))

/-- The reference runs from any memory, its arguments unchanged; it has no semaphores. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From memories that agree and whose tables are the tables `sw`, both programs run, and each device's result is its block
    of the reference's. -/
theorem agree (sw : Bool) (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (ρ' : Dev Cert.ReferenceIdeal.nD → PrngReg) (hT : Cert.KernelIdeal.Swap.Tables m sw)
    (X : FVec Ideal ⟨3, ![2, 4096, 2048]⟩ .f32) (t : IVec ⟨1, ![2]⟩ 32)
    (hX' : m' (((0 : Dev Cert.ReferenceIdeal.nD).tc : Thread Cert.ReferenceIdeal.nD Cert.ReferenceIdeal.τ).loc Cert.ReferenceIdeal.main_arg0) = X)
    (ht' : m' (((0 : Dev Cert.ReferenceIdeal.nD).tc : Thread Cert.ReferenceIdeal.nD Cert.ReferenceIdeal.τ).loc Cert.ReferenceIdeal.main_arg1) = t)
    (hagree : ∀ c : Dev Cert.KernelIdeal.nD,
      m ((c.tc : Thread Cert.KernelIdeal.nD Cert.KernelIdeal.τ).loc Cert.KernelIdeal.main_arg0) = Cert.KernelIdeal.Swap.blockOf c X
      ∧ m ((c.tc : Thread Cert.KernelIdeal.nD Cert.KernelIdeal.τ).loc Cert.KernelIdeal.main_arg1) = t) :
    θ_run (Cert.KernelIdeal.defs (F := Ideal)) (onTc (τ := Cert.KernelIdeal.τ) (Cert.KernelIdeal.main (F := Ideal))) ⟨m, fun _ => 0, ρ⟩
        (fun r => ∀ c : Dev Cert.KernelIdeal.nD,
          r.2.mem ((c.tc : Thread Cert.KernelIdeal.nD Cert.KernelIdeal.τ).loc Cert.KernelIdeal.main_v1)
              = Cert.KernelIdeal.Swap.blockOf c (Cert.ReferenceIdeal.Slabs.out X t)
          ∧ r.2.mem ((c.tc : Thread Cert.KernelIdeal.nD Cert.KernelIdeal.τ).loc Cert.KernelIdeal.main_arg0)
              = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1)
              = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, ρ'⟩
        (fun r =>
          r.2.mem (((0 : Dev Cert.ReferenceIdeal.nD).tc : Thread Cert.ReferenceIdeal.nD Cert.ReferenceIdeal.τ).loc Cert.ReferenceIdeal.main_v7)
              = Cert.ReferenceIdeal.Slabs.out X t
          ∧ r.2.mem (((0 : Dev Cert.ReferenceIdeal.nD).tc : Thread Cert.ReferenceIdeal.nD Cert.ReferenceIdeal.τ).loc Cert.ReferenceIdeal.main_arg0)
              = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1)
              = m' (((0 : Dev Cert.ReferenceIdeal.nD).tc : Thread Cert.ReferenceIdeal.nD Cert.ReferenceIdeal.τ).loc Cert.ReferenceIdeal.main_arg1)) := by
  refine ⟨(θ_run Cert.KernelIdeal.defs _ _).mono
      (fun _ h c => ⟨(h.1 c).2.2.trans (Cert.KernelIdeal.Swap.result_block m hT X t (fun c => (hagree c).1) (fun c => (hagree c).2) c),
        (h.1 c).1, (h.1 c).2.1⟩)
      (Cert.KernelIdeal.Swap.run m ρ sw hT), ?_⟩
  subst hX' ht'
  exact (θ_run Cert.ReferenceIdeal.defs _ _).mono (fun _ h => h 0) (Cert.ReferenceIdeal.Value.run (F := Ideal) m' ρ')

/-- The value claim under tables that swap, -/
theorem value_swap : Cert.algebraic_KernelIdeal_ReferenceIdeal := fun m ρ m' ρ' hpre hagree =>
  ⟨_, agree true m ρ m' ρ' (Cert.KernelIdeal.Swap.tables_swap m hpre) _ _ rfl rfl hagree⟩

/-- and under tables that keep. -/
theorem value_keep : Cert.algebraic_KernelIdeal_ReferenceIdeal_pre_pi_keeps_Kernel := fun m ρ m' ρ' hpre hagree =>
  ⟨_, agree false m ρ m' ρ' (Cert.KernelIdeal.Swap.tables_keep m hpre) _ _ rfl rfl hagree⟩

/-- All the claims. -/
theorem claim : Cert.Claim :=
  ⟨Cert.Kernel.Gen.facts, Cert.KernelIdeal.Gen.facts, Cert.ReferenceIdeal.Gen.facts, Cert.Pre_pi_swaps_Kernel.Gen.facts,
    Cert.Pre_pi_keeps_Kernel.Gen.facts, Cert.Pre_pi_swaps_ReferenceIdeal.Gen.facts, Cert.Pre_pi_keeps_ReferenceIdeal.Gen.facts,
    frame_swap, frame_keep, ideal_frame_swap, ideal_frame_keep, reference_frame,
    fun m ρ _ => reference_frame m ρ trivial, fun m ρ _ => reference_frame m ρ trivial, trivial, value_swap, value_keep⟩

end Cert.Proof

end
